-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x5000x4 : Shape := ⟨3, ![4, 5000, 4]⟩
abbrev S20000x80x1x1 : Shape := ⟨4, ![20000, 80, 1, 1]⟩
abbrev S20000x4x1x1 : Shape := ⟨4, ![20000, 4, 1, 1]⟩
abbrev S20000x80 : Shape := ⟨2, ![20000, 80]⟩
abbrev S4x5000x80 : Shape := ⟨3, ![4, 5000, 80]⟩
abbrev S20000x4 : Shape := ⟨2, ![20000, 4]⟩
abbrev S4x400000 : Shape := ⟨2, ![4, 400000]⟩
abbrev S4x1000 : Shape := ⟨2, ![4, 1000]⟩
abbrev S_ : Shape := ⟨0, ![]⟩
abbrev S4x1000x1 : Shape := ⟨3, ![4, 1000, 1]⟩
abbrev S1 : Shape := ⟨1, ![1]⟩
abbrev S1x1x1 : Shape := ⟨3, ![1, 1, 1]⟩
abbrev S4x1000x4 : Shape := ⟨3, ![4, 1000, 4]⟩
abbrev S1000x4x4 : Shape := ⟨3, ![1000, 4, 4]⟩
abbrev S4x1000x6 : Shape := ⟨3, ![4, 1000, 6]⟩
abbrev S1x5000x4 : Shape := ⟨3, ![1, 5000, 4]⟩
abbrev S1x5000x80 : Shape := ⟨3, ![1, 5000, 80]⟩
abbrev S1x5000x1 : Shape := ⟨3, ![1, 5000, 1]⟩
abbrev S1x5000 : Shape := ⟨2, ![1, 5000]⟩
abbrev S1000x4x1000 : Shape := ⟨3, ![1000, 4, 1000]⟩
abbrev S1000x4 : Shape := ⟨2, ![1000, 4]⟩
abbrev S1000x4x1 : Shape := ⟨3, ![1000, 4, 1]⟩
abbrev S1x1000 : Shape := ⟨2, ![1, 1000]⟩
abbrev S125x4x4 : Shape := ⟨3, ![125, 4, 4]⟩
abbrev S125x4x1 : Shape := ⟨3, ![125, 4, 1]⟩
abbrev S1x4x1000 : Shape := ⟨3, ![1, 4, 1000]⟩
abbrev S125x4x1000 : Shape := ⟨3, ![125, 4, 1000]⟩
abbrev S125x1x1000 : Shape := ⟨3, ![125, 1, 1000]⟩
abbrev S4 : Shape := ⟨1, ![4]⟩
abbrev S4x1 : Shape := ⟨2, ![4, 1]⟩

abbrev nBuf : Space → Nat
  | .hbm => 92
  | .vmem => 20
  | .smem => 0
  | _ => 0

abbrev bufTy : (tb : Table) → Fin (tcTables nBuf tb) → BufTy
  | .hbm, ⟨0, _⟩ => ⟨S4x5000x4, .f32⟩
  | .hbm, ⟨1, _⟩ => ⟨S20000x80x1x1, .f32⟩
  | .hbm, ⟨2, _⟩ => ⟨S20000x4x1x1, .f32⟩
  | .hbm, ⟨3, _⟩ => ⟨S20000x80, .f32⟩
  | .hbm, ⟨4, _⟩ => ⟨S4x5000x80, .f32⟩
  | .hbm, ⟨5, _⟩ => ⟨S20000x4, .f32⟩
  | .hbm, ⟨6, _⟩ => ⟨S4x5000x4, .f32⟩
  | .hbm, ⟨7, _⟩ => ⟨S4x5000x4, .f32⟩
  | .hbm, ⟨8, _⟩ => ⟨S4x5000x80, .f32⟩
  | .hbm, ⟨9, _⟩ => ⟨S4x400000, .f32⟩
  | .hbm, ⟨10, _⟩ => ⟨S4x1000, .f32⟩
  | .hbm, ⟨11, _⟩ => ⟨S4x1000, .i32⟩
  | .hbm, ⟨12, _⟩ => ⟨S_, .i32⟩
  | .hbm, ⟨13, _⟩ => ⟨S_, .i32⟩
  | .hbm, ⟨14, _⟩ => ⟨S4x1000, .i32⟩
  | .hbm, ⟨15, _⟩ => ⟨S4x1000, .i32⟩
  | .hbm, ⟨16, _⟩ => ⟨S4x1000, .i32⟩
  | .hbm, ⟨17, _⟩ => ⟨S_, .i32⟩
  | .hbm, ⟨18, _⟩ => ⟨S4x1000, .i32⟩
  | .hbm, ⟨19, _⟩ => ⟨S4x1000, .i1⟩
  | .hbm, ⟨20, _⟩ => ⟨S4x1000, .i32⟩
  | .hbm, ⟨21, _⟩ => ⟨S4x1000, .i32⟩
  | .hbm, ⟨22, _⟩ => ⟨S_, .i32⟩
  | .hbm, ⟨23, _⟩ => ⟨S4x1000, .i32⟩
  | .hbm, ⟨24, _⟩ => ⟨S4x1000, .i1⟩
  | .hbm, ⟨25, _⟩ => ⟨S4x1000, .i1⟩
  | .hbm, ⟨26, _⟩ => ⟨S_, .i32⟩
  | .hbm, ⟨27, _⟩ => ⟨S4x1000, .i32⟩
  | .hbm, ⟨28, _⟩ => ⟨S4x1000, .i32⟩
  | .hbm, ⟨29, _⟩ => ⟨S4x1000, .i32⟩
  | .hbm, ⟨30, _⟩ => ⟨S4x1000x1, .i32⟩
  | .hbm, ⟨31, _⟩ => ⟨S_, .i32⟩
  | .hbm, ⟨32, _⟩ => ⟨S4x1000x1, .i32⟩
  | .hbm, ⟨33, _⟩ => ⟨S4x1000x1, .i1⟩
  | .hbm, ⟨34, _⟩ => ⟨S_, .i32⟩
  | .hbm, ⟨35, _⟩ => ⟨S4x1000x1, .i32⟩
  | .hbm, ⟨36, _⟩ => ⟨S4x1000x1, .i32⟩
  | .hbm, ⟨37, _⟩ => ⟨S4x1000x1, .i32⟩
  | .hbm, ⟨38, _⟩ => ⟨S1, .i32⟩
  | .hbm, ⟨39, _⟩ => ⟨S_, .i32⟩
  | .hbm, ⟨40, _⟩ => ⟨S4x1000x1, .i32⟩
  | .hbm, ⟨41, _⟩ => ⟨S4x1000x1, .i1⟩
  | .hbm, ⟨42, _⟩ => ⟨S1x1x1, .i32⟩
  | .hbm, ⟨43, _⟩ => ⟨S4x1000x1, .i32⟩
  | .hbm, ⟨44, _⟩ => ⟨S4x1000x1, .i1⟩
  | .hbm, ⟨45, _⟩ => ⟨S4x1000x1, .i1⟩
  | .hbm, ⟨46, _⟩ => ⟨S_, .i1⟩
  | .hbm, ⟨47, _⟩ => ⟨S4x1000, .i1⟩
  | .hbm, ⟨48, _⟩ => ⟨S4x1000x4, .f32⟩
  | .hbm, ⟨49, _⟩ => ⟨S4x1000x4, .i1⟩
  | .hbm, ⟨50, _⟩ => ⟨S_, .f32⟩
  | .hbm, ⟨51, _⟩ => ⟨S4x1000x4, .f32⟩
  | .hbm, ⟨52, _⟩ => ⟨S4x1000x4, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S4x1000, .i32⟩
  | .hbm, ⟨60, _⟩ => ⟨S4x1000, .i32⟩
  | .hbm, ⟨61, _⟩ => ⟨S_, .i32⟩
  | .hbm, ⟨62, _⟩ => ⟨S4x1000, .i32⟩
  | .hbm, ⟨63, _⟩ => ⟨S4x1000, .i1⟩
  | .hbm, ⟨64, _⟩ => ⟨S_, .i32⟩
  | .hbm, ⟨65, _⟩ => ⟨S4x1000, .i32⟩
  | .hbm, ⟨66, _⟩ => ⟨S4x1000, .i1⟩
  | .hbm, ⟨67, _⟩ => ⟨S_, .i32⟩
  | .hbm, ⟨68, _⟩ => ⟨S_, .i1⟩
  | .hbm, ⟨69, _⟩ => ⟨S4x1000, .i1⟩
  | .hbm, ⟨70, _⟩ => ⟨S4x1000, .i1⟩
  | .hbm, ⟨71, _⟩ => ⟨S4x1000, .i1⟩
  | .hbm, ⟨72, _⟩ => ⟨S4x1000, .i32⟩
  | .hbm, ⟨73, _⟩ => ⟨S4x1000, .i32⟩
  | .hbm, ⟨74, _⟩ => ⟨S4x1000, .i32⟩
  | .hbm, ⟨75, _⟩ => ⟨S_, .i32⟩
  | .hbm, ⟨76, _⟩ => ⟨S4x1000, .i32⟩
  | .hbm, ⟨77, _⟩ => ⟨S4x1000, .i32⟩
  | .hbm, ⟨78, _⟩ => ⟨S4x1000, .f32⟩
  | .hbm, ⟨79, _⟩ => ⟨S1000x4x4, .f32⟩
  | .hbm, ⟨80, _⟩ => ⟨S4x1000x1, .f32⟩
  | .hbm, ⟨81, _⟩ => ⟨S4x1000, .f32⟩
  | .hbm, ⟨82, _⟩ => ⟨S4x1000x1, .f32⟩
  | .hbm, ⟨83, _⟩ => ⟨S4x1000, .f32⟩
  | .hbm, ⟨84, _⟩ => ⟨S4x1000x1, .f32⟩
  | .hbm, ⟨85, _⟩ => ⟨S4x1000, .f32⟩
  | .hbm, ⟨86, _⟩ => ⟨S4x1000x1, .f32⟩
  | .hbm, ⟨87, _⟩ => ⟨S4x1000, .f32⟩
  | .hbm, ⟨88, _⟩ => ⟨S4x1000, .f32⟩
  | .hbm, ⟨89, _⟩ => ⟨S4x1000x1, .f32⟩
  | .hbm, ⟨90, _⟩ => ⟨S4x1000x1, .f32⟩
  | .hbm, ⟨91, _⟩ => ⟨S4x1000x6, .f32⟩
  | .local _ .vmem, ⟨0, _⟩ => ⟨S1x5000x4, .f32⟩
  | .local _ .vmem, ⟨1, _⟩ => ⟨S1x5000x4, .f32⟩
  | .local _ .vmem, ⟨2, _⟩ => ⟨S1x5000x80, .f32⟩
  | .local _ .vmem, ⟨3, _⟩ => ⟨S1x5000x80, .f32⟩
  | .local _ .vmem, ⟨4, _⟩ => ⟨S1x5000x4, .f32⟩
  | .local _ .vmem, ⟨5, _⟩ => ⟨S1x5000x4, .f32⟩
  | .local _ .vmem, ⟨6, _⟩ => ⟨S1x5000x4, .f32⟩
  | .local _ .vmem, ⟨7, _⟩ => ⟨S1x5000x4, .f32⟩
  | .local _ .vmem, ⟨8, _⟩ => ⟨S1x5000x80, .f32⟩
  | .local _ .vmem, ⟨9, _⟩ => ⟨S1x5000x80, .f32⟩
  | .local _ .vmem, ⟨10, _⟩ => ⟨S4x1000, .f32⟩
  | .local _ .vmem, ⟨11, _⟩ => ⟨S4x1000, .f32⟩
  | .local _ .vmem, ⟨12, _⟩ => ⟨S4x1000, .f32⟩
  | .local _ .vmem, ⟨13, _⟩ => ⟨S4x1000, .f32⟩
  | .local _ .vmem, ⟨14, _⟩ => ⟨S4x1000, .f32⟩
  | .local _ .vmem, ⟨15, _⟩ => ⟨S1000x4x4, .f32⟩
  | .local _ .vmem, ⟨16, _⟩ => ⟨S4x1000, .f32⟩
  | .local _ .vmem, ⟨17, _⟩ => ⟨S4x1000, .f32⟩
  | .local _ .vmem, ⟨18, _⟩ => ⟨S1000x4x4, .f32⟩
  | .local _ .vmem, ⟨19, _⟩ => ⟨S1000x4x1000, .f32⟩
  | _, _ => ⟨S4x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_call0_v4_1 : Ref sig .tc := ⟨.hbm, 8, rfl⟩
abbrev main_call0_v5 : Ref sig .tc := ⟨.hbm, 9, rfl⟩
abbrev main_call0_values : Ref sig .tc := ⟨.hbm, 10, rfl⟩
abbrev main_call0_indices : Ref sig .tc := ⟨.hbm, 11, rfl⟩
abbrev main_call0_c : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_v2 : Ref sig .tc := ⟨.hbm, 15, rfl⟩
abbrev main_call0_call0_v3 : Ref sig .tc := ⟨.hbm, 16, rfl⟩
abbrev main_call0_call0_v4 : Ref sig .tc := ⟨.hbm, 17, rfl⟩
abbrev main_call0_call0_v5 : Ref sig .tc := ⟨.hbm, 18, rfl⟩
abbrev main_call0_call0_v6 : Ref sig .tc := ⟨.hbm, 19, rfl⟩
abbrev main_call0_call0_v7 : Ref sig .tc := ⟨.hbm, 20, rfl⟩
abbrev main_call0_call0_v8 : Ref sig .tc := ⟨.hbm, 21, rfl⟩
abbrev main_call0_call0_c : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_call0_c_0 : Ref sig .tc := ⟨.hbm, 26, rfl⟩
abbrev main_call0_call0_v12 : Ref sig .tc := ⟨.hbm, 27, rfl⟩
abbrev main_call0_call0_v13 : Ref sig .tc := ⟨.hbm, 28, rfl⟩
abbrev main_call0_v6 : Ref sig .tc := ⟨.hbm, 29, rfl⟩
abbrev main_call0_v7 : Ref sig .tc := ⟨.hbm, 30, rfl⟩
abbrev main_call0_call1_c : Ref sig .tc := ⟨.hbm, 31, rfl⟩
abbrev main_call0_call1_v0 : Ref sig .tc := ⟨.hbm, 32, rfl⟩
abbrev main_call0_call1_v1 : Ref sig .tc := ⟨.hbm, 33, rfl⟩
abbrev main_call0_call1_c_0 : Ref sig .tc := ⟨.hbm, 34, rfl⟩
abbrev main_call0_call1_v2 : Ref sig .tc := ⟨.hbm, 35, rfl⟩
abbrev main_call0_call1_v3 : Ref sig .tc := ⟨.hbm, 36, rfl⟩
abbrev main_call0_call1_v4 : Ref sig .tc := ⟨.hbm, 37, rfl⟩
abbrev main_call0_call1_c_1 : Ref sig .tc := ⟨.hbm, 38, rfl⟩
abbrev main_call0_call1_c_2 : Ref sig .tc := ⟨.hbm, 39, rfl⟩
abbrev main_call0_call1_v5 : Ref sig .tc := ⟨.hbm, 40, rfl⟩
abbrev main_call0_call1_v6 : Ref sig .tc := ⟨.hbm, 41, rfl⟩
abbrev main_call0_call1_v7 : Ref sig .tc := ⟨.hbm, 42, rfl⟩
abbrev main_call0_call1_v8 : Ref sig .tc := ⟨.hbm, 43, rfl⟩
abbrev main_call0_call1_v9 : Ref sig .tc := ⟨.hbm, 44, rfl⟩
abbrev main_call0_call1_v10 : Ref sig .tc := ⟨.hbm, 45, rfl⟩
abbrev main_call0_call1_c_3 : Ref sig .tc := ⟨.hbm, 46, rfl⟩
abbrev main_call0_call1_v11 : Ref sig .tc := ⟨.hbm, 47, rfl⟩
abbrev main_call0_call1_v12 : Ref sig .tc := ⟨.hbm, 48, rfl⟩
abbrev main_call0_call1_v13 : Ref sig .tc := ⟨.hbm, 49, rfl⟩
abbrev main_call0_call1_cst : Ref sig .tc := ⟨.hbm, 50, rfl⟩
abbrev main_call0_call1_v14 : Ref sig .tc := ⟨.hbm, 51, rfl⟩
abbrev main_call0_v8 : Ref sig .tc := ⟨.hbm, 52, rfl⟩
abbrev main_call0_c_0 : Ref sig .tc := ⟨.hbm, 53, rfl⟩
abbrev main_call0_call2_v0 : Ref sig .tc := ⟨.hbm, 54, rfl⟩
abbrev main_call0_call2_c : Ref sig .tc := ⟨.hbm, 55, rfl⟩
abbrev main_call0_call2_v1 : Ref sig .tc := ⟨.hbm, 56, rfl⟩
abbrev main_call0_call2_c_0 : Ref sig .tc := ⟨.hbm, 57, rfl⟩
abbrev main_call0_call2_v2 : Ref sig .tc := ⟨.hbm, 58, rfl⟩
abbrev main_call0_call2_v3 : Ref sig .tc := ⟨.hbm, 59, rfl⟩
abbrev main_call0_call2_v4 : Ref sig .tc := ⟨.hbm, 60, rfl⟩
abbrev main_call0_call2_c_1 : Ref sig .tc := ⟨.hbm, 61, rfl⟩
abbrev main_call0_call2_v5 : Ref sig .tc := ⟨.hbm, 62, rfl⟩
abbrev main_call0_call2_v6 : Ref sig .tc := ⟨.hbm, 63, rfl⟩
abbrev main_call0_call2_c_2 : Ref sig .tc := ⟨.hbm, 64, rfl⟩
abbrev main_call0_call2_v7 : Ref sig .tc := ⟨.hbm, 65, rfl⟩
abbrev main_call0_call2_v8 : Ref sig .tc := ⟨.hbm, 66, rfl⟩
abbrev main_call0_call2_c_3 : Ref sig .tc := ⟨.hbm, 67, rfl⟩
abbrev main_call0_call2_v9 : Ref sig .tc := ⟨.hbm, 68, rfl⟩
abbrev main_call0_call2_v10 : Ref sig .tc := ⟨.hbm, 69, rfl⟩
abbrev main_call0_call2_v11 : Ref sig .tc := ⟨.hbm, 70, rfl⟩
abbrev main_call0_call2_v12 : Ref sig .tc := ⟨.hbm, 71, rfl⟩
abbrev main_call0_call2_v13 : Ref sig .tc := ⟨.hbm, 72, rfl⟩
abbrev main_call0_call2_v14 : Ref sig .tc := ⟨.hbm, 73, rfl⟩
abbrev main_call0_v9 : Ref sig .tc := ⟨.hbm, 74, rfl⟩
abbrev main_call0_c_1 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_call0_v15 : Ref sig .tc := ⟨.hbm, 81, rfl⟩
abbrev main_call0_v16 : Ref sig .tc := ⟨.hbm, 82, rfl⟩
abbrev main_call0_v17 : Ref sig .tc := ⟨.hbm, 83, rfl⟩
abbrev main_call0_v18 : Ref sig .tc := ⟨.hbm, 84, rfl⟩
abbrev main_call0_v19 : Ref sig .tc := ⟨.hbm, 85, rfl⟩
abbrev main_call0_v20 : Ref sig .tc := ⟨.hbm, 86, rfl⟩
abbrev main_call0_v21 : Ref sig .tc := ⟨.hbm, 87, rfl⟩
abbrev main_call0_v22 : Ref sig .tc := ⟨.hbm, 88, rfl⟩
abbrev main_call0_v23 : Ref sig .tc := ⟨.hbm, 89, rfl⟩
abbrev main_call0_v24 : Ref sig .tc := ⟨.hbm, 90, rfl⟩
abbrev main_v0 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x5000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x5000x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

@[reducible] def k1_t1_loop : Scf.Loop 32 :=
  let c0_i32 : BitVec 32 := 0#32
  let c8_i32 : BitVec 32 := 8#32
  let v41 : BitVec 32 := Scalar.addi c0_i32 c8_i32
  let c1_i32 : BitVec 32 := 1#32
  ⟨c0_i32, v41, c1_i32⟩
def k1_off1 (k1_t1 : Fin k1_t1_loop.trips) : Fin 3 → Nat :=
  let c0_i32 : BitVec 32 := 0#32
  let c1_i32 : BitVec 32 := 1#32
  let arg10 : BitVec 32 := Scf.iv c0_i32 c1_i32 k1_t1
  let c125_i32 : BitVec 32 := 125#32
  let v49 : BitVec 32 := Scalar.muli arg10 c125_i32
  let v50 : Index := Scalar.indexCast v49
  let c0_35 : Index := 0#32
  let c0_36 : Index := 0#32
  ![v50.toNat, 0, 0]
def k1_off2 (k1_t1 : Fin k1_t1_loop.trips) : Fin 3 → Nat :=
  let c0_i32 : BitVec 32 := 0#32
  let c1_i32 : BitVec 32 := 1#32
  let arg10 : BitVec 32 := Scf.iv c0_i32 c1_i32 k1_t1
  let c125_i32 : BitVec 32 := 125#32
  let v49 : BitVec 32 := Scalar.muli arg10 c125_i32
  let v101 : Index := Scalar.indexCast v49
  let c0_41 : Index := 0#32
  let c0_42 : Index := 0#32
  ![v101.toNat, 0, 0]
@[reducible] def k1_t2_loop : Scf.Loop 32 :=
  let c0_i32_28 : BitVec 32 := 0#32
  let c1000_i32 : BitVec 32 := 1000#32
  let v43 : BitVec 32 := Scalar.addi c0_i32_28 c1000_i32
  let c1_i32_29 : BitVec 32 := 1#32
  ⟨c0_i32_28, v43, c1_i32_29⟩
def k1_off3 (k1_t2 : Fin k1_t2_loop.trips) : Fin 3 → Nat :=
  let c0_i32_28 : BitVec 32 := 0#32
  let c1_i32_29 : BitVec 32 := 1#32
  let arg10 : BitVec 32 := Scf.iv c0_i32_28 c1_i32_29 k1_t2
  let v49 : Index := Scalar.indexCast arg10
  let c0_35 : Index := 0#32
  let c0_36 : Index := 0#32
  ![v49.toNat, 0, 0]
abbrev stage1_0 : Fin 1 → Memref sig .tc .vmem S4x1000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x1000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1000x4x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4x1000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S4x1000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S4x5000x4 : Shape := ⟨3, ![4, 5000, 4]⟩
abbrev S20000x80x1x1 : Shape := ⟨4, ![20000, 80, 1, 1]⟩
abbrev S20000x4x1x1 : Shape := ⟨4, ![20000, 4, 1, 1]⟩
abbrev S20000x80 : Shape := ⟨2, ![20000, 80]⟩
abbrev S4x5000x80 : Shape := ⟨3, ![4, 5000, 80]⟩
abbrev S20000x4 : Shape := ⟨2, ![20000, 4]⟩
abbrev S_ : Shape := ⟨0, ![]⟩
abbrev S4x5000x1 : Shape := ⟨3, ![4, 5000, 1]⟩
abbrev S4x5000 : Shape := ⟨2, ![4, 5000]⟩
abbrev S4x5000x1x4 : Shape := ⟨4, ![4, 5000, 1, 4]⟩
abbrev S4x5000x80x4 : Shape := ⟨4, ![4, 5000, 80, 4]⟩
abbrev S4x400000x4 : Shape := ⟨3, ![4, 400000, 4]⟩
abbrev S80 : Shape := ⟨1, ![80]⟩
abbrev S1x1x80 : Shape := ⟨3, ![1, 1, 80]⟩
abbrev S4x400000 : Shape := ⟨2, ![4, 400000]⟩
abbrev S4x1000 : Shape := ⟨2, ![4, 1000]⟩
abbrev S4x1000x1 : Shape := ⟨3, ![4, 1000, 1]⟩
abbrev S1 : Shape := ⟨1, ![1]⟩
abbrev S1x1x1 : Shape := ⟨3, ![1, 1, 1]⟩
abbrev S4x1000x4 : Shape := ⟨3, ![4, 1000, 4]⟩
abbrev S4x1x1000 : Shape := ⟨3, ![4, 1, 1000]⟩
abbrev S4x1000x1000 : Shape := ⟨3, ![4, 1000, 1000]⟩
abbrev S1000 : Shape := ⟨1, ![1000]⟩
abbrev S4x1 : Shape := ⟨2, ![4, 1]⟩
abbrev S1x1000 : Shape := ⟨2, ![1, 1000]⟩
abbrev S4x1000x6 : Shape := ⟨3, ![4, 1000, 6]⟩

abbrev nBuf : Space → Nat
  | .hbm => 312
  | .vmem => 0
  | .smem => 0
  | _ => 0

abbrev hbmTy0_0 (i : Nat) : BufTy := match i % 128 with
  | 0 => ⟨S4x5000x4, .f32⟩
  | 1 => ⟨S20000x80x1x1, .f32⟩
  | 2 => ⟨S20000x4x1x1, .f32⟩
  | 3 => ⟨S20000x80, .f32⟩
  | 4 => ⟨S4x5000x80, .f32⟩
  | 5 => ⟨S20000x4, .f32⟩
  | 6 => ⟨S4x5000x4, .f32⟩
  | 7 => ⟨S4x5000x80, .f32⟩
  | 8 => ⟨S4x5000x80, .f32⟩
  | 9 => ⟨S_, .f32⟩
  | 10 => ⟨S4x5000x80, .f32⟩
  | 11 => ⟨S4x5000x80, .f32⟩
  | 12 => ⟨S_, .f32⟩
  | 13 => ⟨S4x5000x80, .f32⟩
  | 14 => ⟨S4x5000x80, .f32⟩
  | 15 => ⟨S4x5000x1, .f32⟩
  | 16 => ⟨S4x5000, .f32⟩
  | 17 => ⟨S4x5000x1, .f32⟩
  | 18 => ⟨S4x5000, .f32⟩
  | 19 => ⟨S4x5000, .f32⟩
  | 20 => ⟨S4x5000x1, .f32⟩
  | 21 => ⟨S4x5000, .f32⟩
  | 22 => ⟨S4x5000x1, .f32⟩
  | 23 => ⟨S4x5000, .f32⟩
  | 24 => ⟨S4x5000, .f32⟩
  | 25 => ⟨S4x5000x1, .f32⟩
  | 26 => ⟨S4x5000, .f32⟩
  | 27 => ⟨S_, .f32⟩
  | 28 => ⟨S4x5000, .f32⟩
  | 29 => ⟨S4x5000, .f32⟩
  | 30 => ⟨S4x5000, .f32⟩
  | 31 => ⟨S4x5000x1, .f32⟩
  | 32 => ⟨S4x5000, .f32⟩
  | 33 => ⟨S_, .f32⟩
  | 34 => ⟨S4x5000, .f32⟩
  | 35 => ⟨S4x5000, .f32⟩
  | 36 => ⟨S4x5000, .f32⟩
  | 37 => ⟨S4x5000x1, .f32⟩
  | 38 => ⟨S4x5000, .f32⟩
  | 39 => ⟨S4x5000x1, .f32⟩
  | 40 => ⟨S4x5000, .f32⟩
  | 41 => ⟨S4x5000x1, .f32⟩
  | 42 => ⟨S4x5000, .f32⟩
  | 43 => ⟨S_, .f32⟩
  | 44 => ⟨S_, .f32⟩
  | 45 => ⟨S_, .f32⟩
  | 46 => ⟨S4x5000, .f32⟩
  | 47 => ⟨S4x5000, .f32⟩
  | 48 => ⟨S_, .f32⟩
  | 49 => ⟨S4x5000, .f32⟩
  | 50 => ⟨S4x5000, .f32⟩
  | 51 => ⟨S4x5000x1, .f32⟩
  | 52 => ⟨S4x5000, .f32⟩
  | 53 => ⟨S_, .f32⟩
  | 54 => ⟨S_, .f32⟩
  | 55 => ⟨S_, .f32⟩
  | 56 => ⟨S4x5000, .f32⟩
  | 57 => ⟨S4x5000, .f32⟩
  | 58 => ⟨S_, .f32⟩
  | 59 => ⟨S4x5000, .f32⟩
  | 60 => ⟨S4x5000, .f32⟩
  | 61 => ⟨S4x5000, .f32⟩
  | 62 => ⟨S4x5000, .f32⟩
  | 63 => ⟨S4x5000, .f32⟩
  | 64 => ⟨S4x5000, .f32⟩
  | 65 => ⟨S4x5000, .f32⟩
  | 66 => ⟨S4x5000, .f32⟩
  | 67 => ⟨S4x5000, .f32⟩
  | 68 => ⟨S4x5000, .f32⟩
  | 69 => ⟨S_, .f32⟩
  | 70 => ⟨S4x5000, .f32⟩
  | 71 => ⟨S4x5000, .f32⟩
  | 72 => ⟨S4x5000, .f32⟩
  | 73 => ⟨S_, .f32⟩
  | 74 => ⟨S_, .f32⟩
  | 75 => ⟨S_, .f32⟩
  | 76 => ⟨S4x5000, .f32⟩
  | 77 => ⟨S4x5000, .f32⟩
  | 78 => ⟨S_, .f32⟩
  | 79 => ⟨S4x5000, .f32⟩
  | 80 => ⟨S4x5000, .f32⟩
  | 81 => ⟨S_, .f32⟩
  | 82 => ⟨S4x5000, .f32⟩
  | 83 => ⟨S4x5000, .f32⟩
  | 84 => ⟨S4x5000, .f32⟩
  | 85 => ⟨S_, .f32⟩
  | 86 => ⟨S_, .f32⟩
  | 87 => ⟨S_, .f32⟩
  | 88 => ⟨S4x5000, .f32⟩
  | 89 => ⟨S4x5000, .f32⟩
  | 90 => ⟨S_, .f32⟩
  | 91 => ⟨S4x5000, .f32⟩
  | 92 => ⟨S4x5000, .f32⟩
  | 93 => ⟨S_, .f32⟩
  | 94 => ⟨S4x5000, .f32⟩
  | 95 => ⟨S4x5000, .f32⟩
  | 96 => ⟨S4x5000, .f32⟩
  | 97 => ⟨S_, .f32⟩
  | 98 => ⟨S_, .f32⟩
  | 99 => ⟨S_, .f32⟩
  | 100 => ⟨S4x5000, .f32⟩
  | 101 => ⟨S4x5000, .f32⟩
  | 102 => ⟨S_, .f32⟩
  | 103 => ⟨S4x5000, .f32⟩
  | 104 => ⟨S4x5000, .f32⟩
  | 105 => ⟨S_, .f32⟩
  | 106 => ⟨S4x5000, .f32⟩
  | 107 => ⟨S4x5000, .f32⟩
  | 108 => ⟨S4x5000, .f32⟩
  | 109 => ⟨S_, .f32⟩
  | 110 => ⟨S_, .f32⟩
  | 111 => ⟨S_, .f32⟩
  | 112 => ⟨S4x5000, .f32⟩
  | 113 => ⟨S4x5000, .f32⟩
  | 114 => ⟨S_, .f32⟩
  | 115 => ⟨S4x5000, .f32⟩
  | 116 => ⟨S4x5000, .f32⟩
  | 117 => ⟨S4x5000x1, .f32⟩
  | 118 => ⟨S4x5000x1, .f32⟩
  | 119 => ⟨S4x5000x1, .f32⟩
  | 120 => ⟨S4x5000x1, .f32⟩
  | 121 => ⟨S4x5000x4, .f32⟩
  | 122 => ⟨S4x5000x1x4, .f32⟩
  | 123 => ⟨S4x5000x80x4, .f32⟩
  | 124 => ⟨S4x400000x4, .f32⟩
  | 125 => ⟨S80, .f32⟩
  | 126 => ⟨S_, .f32⟩
  | 127 => ⟨S80, .f32⟩
  | _ => ⟨S4x5000x4, .f32⟩

abbrev hbmTy0_1 (i : Nat) : BufTy := match i % 128 with
  | 0 => ⟨S80, .f32⟩
  | 1 => ⟨S1x1x80, .f32⟩
  | 2 => ⟨S4x5000x80, .f32⟩
  | 3 => ⟨S4x400000, .f32⟩
  | 4 => ⟨S4x400000, .f32⟩
  | 5 => ⟨S_, .f32⟩
  | 6 => ⟨S4x400000, .f32⟩
  | 7 => ⟨S4x400000, .i1⟩
  | 8 => ⟨S_, .f32⟩
  | 9 => ⟨S_, .f32⟩
  | 10 => ⟨S4x400000, .f32⟩
  | 11 => ⟨S4x400000, .f32⟩
  | 12 => ⟨S4x1000, .f32⟩
  | 13 => ⟨S4x1000, .i32⟩
  | 14 => ⟨S4x1000x1, .i32⟩
  | 15 => ⟨S_, .i32⟩
  | 16 => ⟨S4x1000x1, .i32⟩
  | 17 => ⟨S4x1000x1, .i1⟩
  | 18 => ⟨S_, .i32⟩
  | 19 => ⟨S4x1000x1, .i32⟩
  | 20 => ⟨S4x1000x1, .i32⟩
  | 21 => ⟨S4x1000x1, .i32⟩
  | 22 => ⟨S1, .i32⟩
  | 23 => ⟨S_, .i32⟩
  | 24 => ⟨S4x1000x1, .i32⟩
  | 25 => ⟨S4x1000x1, .i1⟩
  | 26 => ⟨S1x1x1, .i32⟩
  | 27 => ⟨S4x1000x1, .i32⟩
  | 28 => ⟨S4x1000x1, .i1⟩
  | 29 => ⟨S4x1000x1, .i1⟩
  | 30 => ⟨S_, .i1⟩
  | 31 => ⟨S4x1000, .i1⟩
  | 32 => ⟨S4x1000x4, .f32⟩
  | 33 => ⟨S4x1000x4, .i1⟩
  | 34 => ⟨S_, .f32⟩
  | 35 => ⟨S4x1000x4, .f32⟩
  | 36 => ⟨S4x1000x4, .f32⟩
  | 37 => ⟨S_, .i32⟩
  | 38 => ⟨S4x1000, .i32⟩
  | 39 => ⟨S4x1000, .i1⟩
  | 40 => ⟨S_, .i32⟩
  | 41 => ⟨S4x1000, .i32⟩
  | 42 => ⟨S4x1000, .i32⟩
  | 43 => ⟨S4x1000, .i32⟩
  | 44 => ⟨S4x1000x1, .i32⟩
  | 45 => ⟨S1, .i32⟩
  | 46 => ⟨S_, .i32⟩
  | 47 => ⟨S4x1000x1, .i32⟩
  | 48 => ⟨S4x1000x1, .i1⟩
  | 49 => ⟨S1x1x1, .i32⟩
  | 50 => ⟨S4x1000x1, .i32⟩
  | 51 => ⟨S4x1000x1, .i1⟩
  | 52 => ⟨S4x1000x1, .i1⟩
  | 53 => ⟨S_, .i1⟩
  | 54 => ⟨S4x1000, .i1⟩
  | 55 => ⟨S4x1000, .f32⟩
  | 56 => ⟨S_, .f32⟩
  | 57 => ⟨S4x1000, .f32⟩
  | 58 => ⟨S4x1000, .f32⟩
  | 59 => ⟨S4x1000x1, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S4x1000x1, .f32⟩
  | 67 => ⟨S4x1000x1, .f32⟩
  | 68 => ⟨S4x1000x4, .f32⟩
  | 69 => ⟨S4x1000x4, .f32⟩
  | 70 => ⟨S4x1000x1, .f32⟩
  | 71 => ⟨S4x1000, .f32⟩
  | 72 => ⟨S4x1000x1, .f32⟩
  | 73 => ⟨S4x1000x1, .f32⟩
  | 74 => ⟨S4x1000, .f32⟩
  | 75 => ⟨S4x1x1000, .f32⟩
  | 76 => ⟨S4x1000x1000, .f32⟩
  | 77 => ⟨S4x1000x1000, .f32⟩
  | 78 => ⟨S4x1000x1000, .f32⟩
  | 79 => ⟨S4x1000x1, .f32⟩
  | 80 => ⟨S4x1000, .f32⟩
  | 81 => ⟨S4x1000x1, .f32⟩
  | 82 => ⟨S4x1000x1, .f32⟩
  | 83 => ⟨S4x1000, .f32⟩
  | 84 => ⟨S4x1x1000, .f32⟩
  | 85 => ⟨S4x1000x1000, .f32⟩
  | 86 => ⟨S4x1000x1000, .f32⟩
  | 87 => ⟨S4x1000x1000, .f32⟩
  | 88 => ⟨S4x1000x1, .f32⟩
  | 89 => ⟨S4x1000, .f32⟩
  | 90 => ⟨S4x1000x1, .f32⟩
  | 91 => ⟨S4x1000x1, .f32⟩
  | 92 => ⟨S4x1000, .f32⟩
  | 93 => ⟨S4x1x1000, .f32⟩
  | 94 => ⟨S4x1000x1000, .f32⟩
  | 95 => ⟨S4x1000x1000, .f32⟩
  | 96 => ⟨S4x1000x1000, .f32⟩
  | 97 => ⟨S4x1000x1, .f32⟩
  | 98 => ⟨S4x1000, .f32⟩
  | 99 => ⟨S4x1000x1, .f32⟩
  | 100 => ⟨S4x1000x1, .f32⟩
  | 101 => ⟨S4x1000, .f32⟩
  | 102 => ⟨S4x1x1000, .f32⟩
  | 103 => ⟨S4x1000x1000, .f32⟩
  | 104 => ⟨S4x1000x1000, .f32⟩
  | 105 => ⟨S4x1000x1000, .f32⟩
  | 106 => ⟨S4x1000x1000, .f32⟩
  | 107 => ⟨S_, .f32⟩
  | 108 => ⟨S4x1000x1000, .f32⟩
  | 109 => ⟨S4x1000x1000, .f32⟩
  | 110 => ⟨S4x1000x1000, .f32⟩
  | 111 => ⟨S_, .f32⟩
  | 112 => ⟨S4x1000x1000, .f32⟩
  | 113 => ⟨S4x1000x1000, .f32⟩
  | 114 => ⟨S4x1000x1000, .f32⟩
  | 115 => ⟨S4x1000x1, .f32⟩
  | 116 => ⟨S4x1000, .f32⟩
  | 117 => ⟨S4x1000x1, .f32⟩
  | 118 => ⟨S4x1000, .f32⟩
  | 119 => ⟨S4x1000, .f32⟩
  | 120 => ⟨S4x1000x1, .f32⟩
  | 121 => ⟨S4x1000, .f32⟩
  | 122 => ⟨S4x1000x1, .f32⟩
  | 123 => ⟨S4x1000, .f32⟩
  | 124 => ⟨S4x1000, .f32⟩
  | 125 => ⟨S4x1000, .f32⟩
  | 126 => ⟨S4x1000x1, .f32⟩
  | 127 => ⟨S4x1x1000, .f32⟩
  | _ => ⟨S4x5000x4, .f32⟩

abbrev hbmTy0_2 (i : Nat) : BufTy := match i % 128 with
  | 0 => ⟨S4x1000x1000, .f32⟩
  | 1 => ⟨S4x1000x1000, .f32⟩
  | 2 => ⟨S4x1000x1000, .f32⟩
  | 3 => ⟨S4x1000x1000, .f32⟩
  | 4 => ⟨S_, .f32⟩
  | 5 => ⟨S4x1000x1000, .f32⟩
  | 6 => ⟨S4x1000x1000, .f32⟩
  | 7 => ⟨S4x1000x1000, .f32⟩
  | 8 => ⟨S1000, .i32⟩
  | 9 => ⟨S_, .i1⟩
  | 10 => ⟨S4x1000, .i1⟩
  | 11 => ⟨S_, .i32⟩
  | 12 => ⟨S1000, .i32⟩
  | 13 => ⟨S4x1000x1000, .f32⟩
  | 14 => ⟨S1000, .i32⟩
  | 15 => ⟨S_, .i32⟩
  | 16 => ⟨S4x1000, .i1⟩
  | 17 => ⟨S_, .i32⟩
  | 18 => ⟨S_, .i1⟩
  | 19 => ⟨S1, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S4x1x1000, .f32⟩
  | 29 => ⟨S4x1000, .f32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S4x1, .i1⟩
  | 37 => ⟨S_, .f32⟩
  | 38 => ⟨S4x1000, .f32⟩
  | 39 => ⟨S4x1000, .i1⟩
  | 40 => ⟨S1000, .i32⟩
  | 41 => ⟨S1000, .i1⟩
  | 42 => ⟨S1x1000, .i1⟩
  | 43 => ⟨S4x1000, .i1⟩
  | 44 => ⟨S4x1000, .i1⟩
  | 45 => ⟨S4x1000, .i1⟩
  | 46 => ⟨S4x1000, .i1⟩
  | 47 => ⟨S4x1000, .i1⟩
  | 48 => ⟨S4x1000, .i1⟩
  | 49 => ⟨S_, .i32⟩
  | 50 => ⟨S_, .i32⟩
  | 51 => ⟨S4x1000, .f32⟩
  | 52 => ⟨S4x1000, .f32⟩
  | 53 => ⟨S4x1000x1, .f32⟩
  | 54 => ⟨S4x1000x1, .f32⟩
  | 55 => ⟨S4x1000x6, .f32⟩
  | _ => ⟨S4x5000x4, .f32⟩

abbrev hbmTy (i : Nat) : BufTy := match i / 128 with
  | 0 => hbmTy0_0 i
  | 1 => hbmTy0_1 i
  | 2 => hbmTy0_2 i
  | _ => ⟨S4x5000x4, .f32⟩

abbrev bufTy : (tb : Table) → Fin (tcTables nBuf tb) → BufTy
  | .hbm, ⟨i, _⟩ => hbmTy i
  | _, _ => ⟨S4x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_cst_6 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v51 : Ref sig .tc := ⟨.hbm, 80, rfl⟩
abbrev main_cst_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_cst_12 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v55 : Ref sig .tc := ⟨.hbm, 92, rfl⟩
abbrev main_cst_13 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_14 : Ref sig .tc := ⟨.hbm, 97, rfl⟩
abbrev main_cst_15 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v59 : Ref sig .tc := ⟨.hbm, 104, rfl⟩
abbrev main_cst_16 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_17 : Ref sig .tc := ⟨.hbm, 109, rfl⟩
abbrev main_cst_18 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_19 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_cst_20 : Ref sig .tc := ⟨.hbm, 133, rfl⟩
abbrev main_v79 : Ref sig .tc := ⟨.hbm, 134, rfl⟩
abbrev main_v80 : Ref sig .tc := ⟨.hbm, 135, rfl⟩
abbrev main_cst_21 : Ref sig .tc := ⟨.hbm, 136, rfl⟩
abbrev main_call6_v0 : Ref sig .tc := ⟨.hbm, 137, rfl⟩
abbrev main_call6_v1 : Ref sig .tc := ⟨.hbm, 138, rfl⟩
abbrev main_v81 : Ref sig .tc := ⟨.hbm, 139, rfl⟩
abbrev main_values : Ref sig .tc := ⟨.hbm, 140, rfl⟩
abbrev main_indices : Ref sig .tc := ⟨.hbm, 141, rfl⟩
abbrev main_v82 : Ref sig .tc := ⟨.hbm, 142, rfl⟩
abbrev main_call7_c : Ref sig .tc := ⟨.hbm, 143, rfl⟩
abbrev main_call7_v0 : Ref sig .tc := ⟨.hbm, 144, rfl⟩
abbrev main_call7_v1 : Ref sig .tc := ⟨.hbm, 145, rfl⟩
abbrev main_call7_c_0 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_call7_c_1 : Ref sig .tc := ⟨.hbm, 150, rfl⟩
abbrev main_call7_c_2 : Ref sig .tc := ⟨.hbm, 151, rfl⟩
abbrev main_call7_v5 : Ref sig .tc := ⟨.hbm, 152, rfl⟩
abbrev main_call7_v6 : Ref sig .tc := ⟨.hbm, 153, rfl⟩
abbrev main_call7_v7 : Ref sig .tc := ⟨.hbm, 154, rfl⟩
abbrev main_call7_v8 : Ref sig .tc := ⟨.hbm, 155, rfl⟩
abbrev main_call7_v9 : Ref sig .tc := ⟨.hbm, 156, rfl⟩
abbrev main_call7_v10 : Ref sig .tc := ⟨.hbm, 157, rfl⟩
abbrev main_call7_c_3 : Ref sig .tc := ⟨.hbm, 158, rfl⟩
abbrev main_call7_v11 : Ref sig .tc := ⟨.hbm, 159, rfl⟩
abbrev main_call7_v12 : Ref sig .tc := ⟨.hbm, 160, rfl⟩
abbrev main_call7_v13 : Ref sig .tc := ⟨.hbm, 161, rfl⟩
abbrev main_call7_cst : Ref sig .tc := ⟨.hbm, 162, rfl⟩
abbrev main_call7_v14 : Ref sig .tc := ⟨.hbm, 163, rfl⟩
abbrev main_v83 : Ref sig .tc := ⟨.hbm, 164, rfl⟩
abbrev main_call8_c : Ref sig .tc := ⟨.hbm, 165, rfl⟩
abbrev main_call8_v0 : Ref sig .tc := ⟨.hbm, 166, rfl⟩
abbrev main_call8_v1 : Ref sig .tc := ⟨.hbm, 167, rfl⟩
abbrev main_call8_c_0 : Ref sig .tc := ⟨.hbm, 168, rfl⟩
abbrev main_call8_v2 : Ref sig .tc := ⟨.hbm, 169, rfl⟩
abbrev main_call8_v3 : Ref sig .tc := ⟨.hbm, 170, rfl⟩
abbrev main_call8_v4 : Ref sig .tc := ⟨.hbm, 171, rfl⟩
abbrev main_call8_v5 : Ref sig .tc := ⟨.hbm, 172, rfl⟩
abbrev main_call8_c_1 : Ref sig .tc := ⟨.hbm, 173, rfl⟩
abbrev main_call8_c_2 : Ref sig .tc := ⟨.hbm, 174, rfl⟩
abbrev main_call8_v6 : Ref sig .tc := ⟨.hbm, 175, rfl⟩
abbrev main_call8_v7 : Ref sig .tc := ⟨.hbm, 176, rfl⟩
abbrev main_call8_v8 : Ref sig .tc := ⟨.hbm, 177, rfl⟩
abbrev main_call8_v9 : Ref sig .tc := ⟨.hbm, 178, rfl⟩
abbrev main_call8_v10 : Ref sig .tc := ⟨.hbm, 179, rfl⟩
abbrev main_call8_v11 : Ref sig .tc := ⟨.hbm, 180, rfl⟩
abbrev main_call8_c_3 : Ref sig .tc := ⟨.hbm, 181, rfl⟩
abbrev main_call8_v12 : Ref sig .tc := ⟨.hbm, 182, rfl⟩
abbrev main_call8_v13 : Ref sig .tc := ⟨.hbm, 183, rfl⟩
abbrev main_call8_cst : Ref sig .tc := ⟨.hbm, 184, rfl⟩
abbrev main_call8_v14 : Ref sig .tc := ⟨.hbm, 185, rfl⟩
abbrev main_v84 : Ref sig .tc := ⟨.hbm, 186, rfl⟩
abbrev main_v85 : Ref sig .tc := ⟨.hbm, 187, rfl⟩
abbrev main_cst_22 : Ref sig .tc := ⟨.hbm, 188, rfl⟩
abbrev main_cst_23 : Ref sig .tc := ⟨.hbm, 189, rfl⟩
abbrev main_v86 : Ref sig .tc := ⟨.hbm, 190, rfl⟩
abbrev main_cst_24 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_v125 : Ref sig .tc := ⟨.hbm, 230, rfl⟩
abbrev main_v126 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_cst_25 : Ref sig .tc := ⟨.hbm, 235, rfl⟩
abbrev main_v130 : Ref sig .tc := ⟨.hbm, 236, rfl⟩
abbrev main_v131 : Ref sig .tc := ⟨.hbm, 237, rfl⟩
abbrev main_v132 : Ref sig .tc := ⟨.hbm, 238, rfl⟩
abbrev main_cst_26 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_v140 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_cst_27 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_c : Ref sig .tc := ⟨.hbm, 265, rfl⟩
abbrev main_v157 : Ref sig .tc := ⟨.hbm, 266, rfl⟩
abbrev main_c_28 : Ref sig .tc := ⟨.hbm, 267, rfl⟩
abbrev main_v158_0 : Ref sig .tc := ⟨.hbm, 268, rfl⟩
abbrev main_v158_1 : Ref sig .tc := ⟨.hbm, 269, rfl⟩
abbrev main_v158_2 : Ref sig .tc := ⟨.hbm, 270, rfl⟩
abbrev main_v158_3 : Ref sig .tc := ⟨.hbm, 271, rfl⟩
abbrev main_v158_4 : Ref sig .tc := ⟨.hbm, 272, rfl⟩
abbrev main_while0c_c_33 : Ref sig .tc := ⟨.hbm, 273, rfl⟩
abbrev main_while0c_v164 : Ref sig .tc := ⟨.hbm, 274, rfl⟩
abbrev main_while0b_call9_v0 : Ref sig .tc := ⟨.hbm, 275, rfl⟩
abbrev main_while0b_v164 : Ref sig .tc := ⟨.hbm, 276, rfl⟩
abbrev main_while0b_call10_c : Ref sig .tc := ⟨.hbm, 277, rfl⟩
abbrev main_while0b_call10_v0 : Ref sig .tc := ⟨.hbm, 278, rfl⟩
abbrev main_while0b_call10_c_0 : Ref sig .tc := ⟨.hbm, 279, rfl⟩
abbrev main_while0b_call10_v1 : Ref sig .tc := ⟨.hbm, 280, rfl⟩
abbrev main_while0b_call10_v2 : Ref sig .tc := ⟨.hbm, 281, rfl⟩
abbrev main_while0b_call10_c_1 : Ref sig .tc := ⟨.hbm, 282, rfl⟩
abbrev main_while0b_call10_c_2 : Ref sig .tc := ⟨.hbm, 283, rfl⟩
abbrev main_while0b_call10_v3 : Ref sig .tc := ⟨.hbm, 284, rfl⟩
abbrev main_while0b_v165 : Ref sig .tc := ⟨.hbm, 285, rfl⟩
abbrev main_while0b_call11_c : Ref sig .tc := ⟨.hbm, 286, rfl⟩
abbrev main_while0b_call11_v0 : Ref sig .tc := ⟨.hbm, 287, rfl⟩
abbrev main_while0b_call11_c_0 : Ref sig .tc := ⟨.hbm, 288, rfl⟩
abbrev main_while0b_call11_v1 : Ref sig .tc := ⟨.hbm, 289, rfl⟩
abbrev main_while0b_call11_v2 : Ref sig .tc := ⟨.hbm, 290, rfl⟩
abbrev main_while0b_call11_c_1 : Ref sig .tc := ⟨.hbm, 291, rfl⟩
abbrev main_while0b_v166 : Ref sig .tc := ⟨.hbm, 292, rfl⟩
abbrev main_while0b_cst_33 : Ref sig .tc := ⟨.hbm, 293, rfl⟩
abbrev main_while0b_v167 : Ref sig .tc := ⟨.hbm, 294, rfl⟩
abbrev main_while0b_v168 : Ref sig .tc := ⟨.hbm, 295, rfl⟩
abbrev main_while0b_v169 : Ref sig .tc := ⟨.hbm, 296, rfl⟩
abbrev main_while0b_v170 : Ref sig .tc := ⟨.hbm, 297, rfl⟩
abbrev main_while0b_v171 : Ref sig .tc := ⟨.hbm, 298, rfl⟩
abbrev main_while0b_v172 : Ref sig .tc := ⟨.hbm, 299, rfl⟩
abbrev main_while0b_v173 : Ref sig .tc := ⟨.hbm, 300, rfl⟩
abbrev main_while0b_v174 : Ref sig .tc := ⟨.hbm, 301, rfl⟩
abbrev main_while0b_v175 : Ref sig .tc := ⟨.hbm, 302, rfl⟩
abbrev main_while0b_v176 : Ref sig .tc := ⟨.hbm, 303, rfl⟩
abbrev main_while0b_v177 : Ref sig .tc := ⟨.hbm, 304, rfl⟩
abbrev main_while0b_c_34 : Ref sig .tc := ⟨.hbm, 305, rfl⟩
abbrev main_while0b_v178 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_v163 : Ref sig .tc := ⟨.hbm, 311, rfl⟩

abbrev nD : Nat := 1
abbrev τ : Topo := Topo.v7x

variable {F : FTy → Type} [FloatOps F]

abbrev main_while0_count : Scf.Loop 32 := ⟨0#32, 1000#32, 1#32⟩
-- ==== Proof.KI.Region0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The decoding and scoring region, from any contents of the buffers it is entered with. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x5000x80 := Rect.unit (s := S1x5000x80) ![0, 0, 0] S1x5000x80.size inb_S1x5000x80_S1x5000x80_0_0_0
abbrev r0_1 : Rect S1x5000x4 := Rect.unit (s := S1x5000x4) ![0, 0, 0] S1x5000x4.size inb_S1x5000x4_S1x5000x4_0_0_0

def k0_pay20 (x0 : Vec F S1x5000x4 .f32) (x1 : Vec F S1x5000x80 .f32) (x2 : Vec F S1x5000x4 .f32) : FVec F S1x5000x4 .f32 :=
  k0_pay3 (View.ld x2 r0_1) -- `v10`
def k0_pay21 (x0 : Vec F S1x5000x4 .f32) (x1 : Vec F S1x5000x80 .f32) (x2 : Vec F S1x5000x4 .f32) : FVec F S1x5000 .f32 :=
  k0_pay4 (View.ld x0 r0_1) -- `v15`
def k0_pay22 (x0 : Vec F S1x5000x4 .f32) (x1 : Vec F S1x5000x80 .f32) (x2 : Vec F S1x5000x4 .f32) : FVec F S1x5000 .f32 :=
  k0_pay5 (View.ld x0 r0_1) -- `v20`
def k0_pay23 (x0 : Vec F S1x5000x4 .f32) (x1 : Vec F S1x5000x80 .f32) (x2 : Vec F S1x5000x4 .f32) : FVec F S1x5000 .f32 :=
  k0_pay6 (View.ld x0 r0_1) -- `v25`
def k0_pay24 (x0 : Vec F S1x5000x4 .f32) (x1 : Vec F S1x5000x80 .f32) (x2 : Vec F S1x5000x4 .f32) : FVec F S1x5000 .f32 :=
  k0_pay7 (View.ld x0 r0_1) -- `v30`
def k0_pay25 (x0 : Vec F S1x5000x4 .f32) (x1 : Vec F S1x5000x80 .f32) (x2 : Vec F S1x5000x4 .f32) : FVec F S1x5000 .f32 :=
  k0_pay8 (View.ld x2 r0_1) -- `v32`
def k0_pay26 (x0 : Vec F S1x5000x4 .f32) (x1 : Vec F S1x5000x80 .f32) (x2 : Vec F S1x5000x4 .f32) : FVec F S1x5000 .f32 :=
  k0_pay9 (View.ld x2 r0_1) -- `v34`
def k0_pay27 (x0 : Vec F S1x5000x4 .f32) (x1 : Vec F S1x5000x80 .f32) (x2 : Vec F S1x5000x4 .f32) : FVec F S1x5000 .f32 :=
  k0_pay10 (View.ld x2 r0_1) -- `v38`
def k0_pay28 (x0 : Vec F S1x5000x4 .f32) (x1 : Vec F S1x5000x80 .f32) (x2 : Vec F S1x5000x4 .f32) : FVec F S1x5000 .f32 :=
  k0_pay11 (F := F) -- `v39`

/-- What the decoding body leaves in its box block, from its three input blocks. -/
def out0_3 (x0 : Vec F S1x5000x4 .f32) (x1 : Vec F S1x5000x80 .f32) (x2 : Vec F S1x5000x4 .f32) : Vec F S1x5000x4 .f32 :=
  View.canon [⟨r0_1, k0_pay1 (k0_pay16 (k0_pay20 x0 x1 x2) (k0_pay22 x0 x1 x2) (k0_pay24 x0 x1 x2) (k0_pay26 x0 x1 x2)) (k0_pay17 (k0_pay21 x0 x1 x2) (k0_pay23 x0 x1 x2) (k0_pay25 x0 x1 x2) (k0_pay27 x0 x1 x2) (k0_pay28 x0 x1 x2)) (k0_pay18 (k0_pay20 x0 x1 x2) (k0_pay22 x0 x1 x2) (k0_pay24 x0 x1 x2) (k0_pay26 x0 x1 x2)) (k0_pay19 (k0_pay21 x0 x1 x2) (k0_pay23 x0 x1 x2) (k0_pay25 x0 x1 x2) (k0_pay27 x0 x1 x2) (k0_pay28 x0 x1 x2))⟩]

theorem cover0_3 (p0 : Vec F S1x5000x4 .f32) (y : S1x5000x4.Idx) :
    ∃ pc ∈ ([⟨r0_1, p0⟩] : List (View.Piece (Elt F) S1x5000x4 .f32)), y ∈ pc.1.set :=
  View.cover_of_tiled [⟨r0_1, p0⟩] S1x5000x4.size (by rfl) y

/-- What the decoding body leaves in its score block, from its three input blocks. -/
def out0_4 (x0 : Vec F S1x5000x4 .f32) (x1 : Vec F S1x5000x80 .f32) (x2 : Vec F S1x5000x4 .f32) : Vec F S1x5000x80 .f32 :=
  View.canon [⟨r0_0, k0_pay2 (View.ld x1 r0_0)⟩]

theorem cover0_4 (p0 : Vec F S1x5000x80 .f32) (y : S1x5000x80.Idx) :
    ∃ pc ∈ ([⟨r0_0, p0⟩] : List (View.Piece (Elt F) S1x5000x80 .f32)), y ∈ pc.1.set :=
  View.cover_of_tiled [⟨r0_0, p0⟩] S1x5000x80.size (by rfl) y

set_option maxHeartbeats 1000000 in
/-- The decoding body, on whole staging buffers: the inputs stay as they were and the outputs hold `out0_3` and `out0_4`. -/
theorem sound_kernel0 (c : Dev nD) (E : Set ℕ) (i : grid0.Coords) (arg1 : Memref sig .tc .vmem S1x5000x4 .f32) (harg1 : arg1.IsWhole) (arg2 : Memref sig .tc .vmem S1x5000x80 .f32) (harg2 : arg2.IsWhole) (arg3 : Memref sig .tc .vmem S1x5000x4 .f32) (harg3 : arg3.IsWhole) (arg4 : Memref sig .tc .vmem S1x5000x4 .f32) (harg4 : arg4.IsWhole) (arg5 : Memref sig .tc .vmem S1x5000x80 .f32) (harg5 : arg5.IsWhole)
    (x0 : Vec F S1x5000x4 .f32) (x1 : Vec F S1x5000x80 .f32) (x2 : Vec F S1x5000x4 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__decode_score_kernel i arg1 harg1 arg2 harg2 arg3 harg3 arg4 harg4 arg5 harg5) K := by
  simp only [cc0__decode_score_kernel_eq_skeleton]; unfold cc0__decode_score_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _)).trans ?_
  rfl

/-- The proof data of the decoding region: the arrays it is entered with and what each block holds after each grid point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

/-- The decoding body meets its obligation at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KI.Nms.lean ====
module

public import proofs.«01_k».proof.Proof.Gen.KernelIdeal.Loops
public import Idealize.ShloMosaic.Lib.Pipeline.FrameBody
public import Idealize.ShloMosaic.Lib.Pipeline.Value

/-! What the two loops of the suppression body compute, as functions of the values the body loads. -/

@[expose] public section

set_option maxRecDepth 16384

noncomputable section

namespace Cert.KernelIdeal.Run

open Idealize.ShloMosaic Idealize.ShloMosaic.TcCoe Idealize.ShloMosaic.Tactic
open Cert.KernelIdeal Cert.KernelIdeal.Gen

variable {F : FTy → Type} [FloatOps F]

/-- The chunk of 125 rows trip `k` of the first loop loads from the shifted boxes. -/
abbrev rowsOf (tb : Vec F S1000x4x4 .f32) (k : Fin k1_t1_loop.trips) : Vec F S125x4x4 .f32 :=
  View.ld tb (Rect.unit (s := S1000x4x4) (k1_off1 k) S125x4x4.size (k1_off1_inb k))

/-- The chunk of 125 rows trip `k` of the first loop stores: for each pair, one where the row suppresses the column. -/
abbrev chunkOf (tb : Vec F S1000x4x4 .f32) (v6 v9 v12 v15 v26 : FVec F S4x1000 .f32) (k : Fin k1_t1_loop.trips) :
    FVec F S125x4x1000 .f32 :=
  k1_pay2 (k1_pay6 v6 v9 v12 v15 v26 0#32 1#32 k (rowsOf tb k))

/-- The pieces the first `k` trips of the first loop store, the last one first. -/
def supPieces (tb : Vec F S1000x4x4 .f32) (v6 v9 v12 v15 v26 : FVec F S4x1000 .f32) :
    ℕ → List (View.Piece (Elt F) S1000x4x1000 .f32)
  | 0 => []
  | k + 1 => if h : k < k1_t1_loop.trips then
      ⟨Rect.unit (s := S1000x4x1000) (k1_off2 ⟨k, h⟩) S125x4x1000.size (k1_off2_inb ⟨k, h⟩), chunkOf tb v6 v9 v12 v15 v26 ⟨k, h⟩⟩
        :: supPieces tb v6 v9 v12 v15 v26 k
    else supPieces tb v6 v9 v12 v15 v26 k

/-- The pairwise suppression table the first loop leaves. -/
def supOf (tb : Vec F S1000x4x4 .f32) (v6 v9 v12 v15 v26 : FVec F S4x1000 .f32) : Vec F S1000x4x1000 .f32 :=
  View.canon (supPieces tb v6 v9 v12 v15 v26 k1_t1_loop.trips)

/-- The keep mask before trip `k` of the second loop, which walks the rows of the suppression table. -/
def keepOf (sup : Vec F S1000x4x1000 .f32) : ℕ → FVec F S4x1000 .f32
  | 0 => k1_pay3
  | k + 1 => if h : k < k1_t2_loop.trips then
      k1_pay4 ⟨k, h⟩ (keepOf sup k) (View.ld sup (Rect.unit (s := S1000x4x1000) (k1_off3 ⟨k, h⟩) S1x4x1000.size (k1_off3_inb ⟨k, h⟩)))
    else keepOf sup k

/-- The suppression table as a function of the body's inputs. -/
def nmsSup (x0 x1 x2 x3 x4 : Vec F S4x1000 .f32) (x5 : Vec F S1000x4x4 .f32) : Vec F S1000x4x1000 .f32 :=
  supOf (k1_pay1 (k1_pay13 x4) (k1_pay14 x5)) (k1_pay8 x4 x0) (k1_pay9 x4 x1) (k1_pay10 x4 x2) (k1_pay11 x4 x3) (k1_pay12 x2 x0 x3 x1)

/-- The suppression body's output as a function of its inputs. -/
def nmsOut (x0 x1 x2 x3 x4 : Vec F S4x1000 .f32) (x5 : Vec F S1000x4x4 .f32) (x6 : Vec F S4x1000 .f32) : Vec F S4x1000 .f32 :=
  k1_pay5 (keepOf (nmsSup x0 x1 x2 x3 x4 x5) k1_t2_loop.trips) x6

theorem trips1 : k1_t1_loop.trips = 8 := by decide +kernel
theorem trips2 : k1_t2_loop.trips = 1000 := by decide +kernel

/-- A piece of an executed trip is in the list of all pieces after it. -/
theorem mem_supPieces (tb : Vec F S1000x4x4 .f32) (v6 v9 v12 v15 v26 : FVec F S4x1000 .f32) (j : Fin k1_t1_loop.trips) :
    ∀ n : ℕ, j.val < n →
    (⟨Rect.unit (s := S1000x4x1000) (k1_off2 j) S125x4x1000.size (k1_off2_inb j), chunkOf tb v6 v9 v12 v15 v26 j⟩ :
      View.Piece (Elt F) S1000x4x1000 .f32) ∈ supPieces tb v6 v9 v12 v15 v26 n
  | 0, h => absurd h (Nat.not_lt_zero _)
  | n + 1, h => by
    unfold supPieces
    rcases Nat.lt_succ_iff_lt_or_eq.mp h with h' | h'
    · split
      · exact List.mem_cons_of_mem _ (mem_supPieces tb v6 v9 v12 v15 v26 j n h')
      · exact mem_supPieces tb v6 v9 v12 v15 v26 j n h'
    · subst h'
      rw [dif_pos j.isLt]
      exact List.mem_cons_self

/-- The stored chunks cover the suppression table. -/
theorem supPieces_cover (tb : Vec F S1000x4x4 .f32) (v6 v9 v12 v15 v26 : FVec F S4x1000 .f32) (y : S1000x4x1000.Idx) :
    ∃ p ∈ supPieces tb v6 v9 v12 v15 v26 k1_t1_loop.trips, y ∈ p.1.set := by
  have h0 : (y 0).val < 1000 := (y 0).isLt
  have h1 : (y 1).val < 4 := (y 1).isLt
  have h2 : (y 2).val < 1000 := (y 2).isLt
  have hk : (y 0).val / 125 < k1_t1_loop.trips := by rw [trips1]; omega
  refine ⟨_, mem_supPieces tb v6 v9 v12 v15 v26 ⟨(y 0).val / 125, hk⟩ _ hk, ?_⟩
  rw [Rect.mem_set_unit]
  intro a
  rw [k1_off2_eq]
  fin_cases a
  · show 125 * ((y 0).val / 125) ≤ (y 0).val ∧ (y 0).val < 125 * ((y 0).val / 125) + 125
    omega
  · show 0 ≤ (y 1).val ∧ (y 1).val < 0 + 4
    omega
  · show 0 ≤ (y 2).val ∧ (y 2).val < 0 + 1000
    omega

section Loops

variable (𝒱 : Variants) (c : Dev nD) (bd : Option 𝒱.V)
  (arg0 : Memref sig .tc .vmem S4x1000 .f32) (harg0 : arg0.IsWhole)
  (arg1 : Memref sig .tc .vmem S4x1000 .f32) (harg1 : arg1.IsWhole)
  (arg2 : Memref sig .tc .vmem S4x1000 .f32) (harg2 : arg2.IsWhole)
  (arg3 : Memref sig .tc .vmem S4x1000 .f32) (harg3 : arg3.IsWhole)
  (arg4 : Memref sig .tc .vmem S4x1000 .f32) (harg4 : arg4.IsWhole)
  (arg5 : Memref sig .tc .vmem S1000x4x4 .f32) (harg5 : arg5.IsWhole)
  (arg6 : Memref sig .tc .vmem S4x1000 .f32) (harg6 : arg6.IsWhole)
  (arg7 : Memref sig .tc .vmem S4x1000 .f32) (harg7 : arg7.IsWhole)
  (arg8 : Memref sig .tc .vmem S1000x4x4 .f32) (harg8 : arg8.IsWhole)
  (arg9 : Memref sig .tc .vmem S1000x4x1000 .f32) (harg9 : arg9.IsWhole)

/-- One trip of the first loop stores one chunk. -/
theorem trip1_pieces (v6 v9 v12 v15 v26 : FVec F S4x1000 .f32) (X : BufTy.Contents (Elt F) arg8.view.ty) (k : Fin k1_t1_loop.trips) :
    tripL_k1_t1 (F := F) 𝒱 c bd arg0 harg0 arg1 harg1 arg2 harg2 arg3 harg3 arg4 harg4 arg5 harg5 arg6 harg6 arg7 harg7 arg8 harg8 arg9 harg9 v6 v9 v12 v15 v26 X k
      = [⟨Rect.unit (s := S1000x4x1000) (k1_off2 k) S125x4x1000.size (k1_off2_inb k), chunkOf (arg8.view.read (Elt F) X) v6 v9 v12 v15 v26 k⟩] := by
  unfold tripL_k1_t1 trip_k1_t1
  rfl

/-- One trip of the second loop updates the keep mask from its row of the table. -/
theorem trip2_yield (X : BufTy.Contents (Elt F) arg9.view.ty) (k : Fin k1_t2_loop.trips) (acc : FVec F S4x1000 .f32) :
    tripR_k1_t2 (F := F) 𝒱 c bd arg0 harg0 arg1 harg1 arg2 harg2 arg3 harg3 arg4 harg4 arg5 harg5 arg6 harg6 arg7 harg7 arg8 harg8 arg9 harg9 X k acc
      = k1_pay4 k acc (View.ld (arg9.view.read (Elt F) X) (Rect.unit (s := S1000x4x1000) (k1_off3 k) S1x4x1000.size (k1_off3_inb k))) := by
  unfold tripR_k1_t2 trip_k1_t2
  rfl

/-- The pieces of the first loop's trips. -/
theorem pieces_eq (v6 v9 v12 v15 v26 : FVec F S4x1000 .f32) (X : BufTy.Contents (Elt F) arg8.view.ty) :
    ∀ k : ℕ, k ≤ k1_t1_loop.trips →
    pb_k1_t1 (F := F) 𝒱 c bd arg0 harg0 arg1 harg1 arg2 harg2 arg3 harg3 arg4 harg4 arg5 harg5 arg6 harg6 arg7 harg7 arg8 harg8 arg9 harg9 v6 v9 v12 v15 v26 X k = supPieces (arg8.view.read (Elt F) X) v6 v9 v12 v15 v26 k
  | 0, _ => rfl
  | k + 1, h => by
    have e := pb_k1_t1_succ (F := F) 𝒱 c bd arg0 harg0 arg1 harg1 arg2 harg2 arg3 harg3 arg4 harg4 arg5 harg5 arg6 harg6 arg7 harg7 arg8 harg8 arg9 harg9 v6 v9 v12 v15 v26 X ⟨k, h⟩
    refine e.trans ?_
    rw [trip1_pieces, pieces_eq v6 v9 v12 v15 v26 X k (Nat.le_of_lt h)]
    conv_rhs => unfold supPieces
    rw [dif_pos (show k < k1_t1_loop.trips from h)]
    rfl

/-- The carried keep mask of the second loop, over any contents that read as the table. -/
theorem state_eq (sup : Vec F S1000x4x1000 .f32) (X : BufTy.Contents (Elt F) arg9.view.ty) (hX : arg9.view.read (Elt F) X = sup) :
    ∀ k : ℕ, k ≤ k1_t2_loop.trips →
    st_k1_t2 (F := F) 𝒱 c bd arg0 harg0 arg1 harg1 arg2 harg2 arg3 harg3 arg4 harg4 arg5 harg5 arg6 harg6 arg7 harg7 arg8 harg8 arg9 harg9 X k1_pay3 k = keepOf sup k
  | 0, _ => rfl
  | k + 1, h => by
    have e := st_k1_t2_succ (F := F) 𝒱 c bd arg0 harg0 arg1 harg1 arg2 harg2 arg3 harg3 arg4 harg4 arg5 harg5 arg6 harg6 arg7 harg7 arg8 harg8 arg9 harg9 X k1_pay3 ⟨k, h⟩
    refine e.trans ?_
    rw [trip2_yield, state_eq sup X hX k (Nat.le_of_lt h), hX]
    conv_rhs => unfold keepOf
    rw [dif_pos (show k < k1_t2_loop.trips from h)]

/-- Whatever the table's buffer held before, the second loop after the first computes the keep mask of the table. -/
theorem loops_eq (tb : Vec F S1000x4x4 .f32) (v6 v9 v12 v15 v26 : FVec F S4x1000 .f32) (X : BufTy.Contents (Elt F) arg8.view.ty)
    (hX : arg8.view.read (Elt F) X = tb) (f : BufTy.Contents (Elt F) arg9.view.ty) :
    st_k1_t2 (F := F) 𝒱 c bd arg0 harg0 arg1 harg1 arg2 harg2 arg3 harg3 arg4 harg4 arg5 harg5 arg6 harg6 arg7 harg7 arg8 harg8 arg9 harg9
        (arg9.view.writes (Elt F) f (pb_k1_t1 (F := F) 𝒱 c bd arg0 harg0 arg1 harg1 arg2 harg2 arg3 harg3 arg4 harg4 arg5 harg5 arg6 harg6 arg7 harg7 arg8 harg8 arg9 harg9 v6 v9 v12 v15 v26 X k1_t1_loop.trips)) k1_pay3 k1_t2_loop.trips
      = keepOf (supOf tb v6 v9 v12 v15 v26) k1_t2_loop.trips := by
  refine state_eq 𝒱 c bd arg0 harg0 arg1 harg1 arg2 harg2 arg3 harg3 arg4 harg4 arg5 harg5 arg6 harg6 arg7 harg7 arg8 harg8 arg9 harg9 _ _ ?_ _ le_rfl
  rw [pieces_eq 𝒱 c bd arg0 harg0 arg1 harg1 arg2 harg2 arg3 harg3 arg4 harg4 arg5 harg5 arg6 harg6 arg7 harg7 arg8 harg8 arg9 harg9 v6 v9 v12 v15 v26 X _ le_rfl, hX]
  exact View.read_writes_eq_canon _ _ _ (supPieces_cover tb v6 v9 v12 v15 v26)

/-- A load of a whole buffer reads the value the buffer was given. -/
theorem readAt_unread {s : Shape} {e : EltTy} (arg : Memref sig .tc .vmem s e) (harg : arg.IsWhole) (x : s.Idx → Elt F e)
    {off : Fin s.rank → ℕ} (h : off = fun _ => 0) (inb : ∀ a, off a + s.size a ≤ s.size a) :
    View.readAt (Elt F) arg.view (Rect.unit off s.size inb).toLoadRect (harg.unread x) = x := by
  refine (View.readAt_eq_ld arg.view _ (Rect.unit off s.size inb)).trans ?_
  rw [harg.read_unread]
  exact View.ld_unit_zero h inb x

theorem zero2 : (![0, 0] : Fin 2 → ℕ) = fun _ => 0 := by decide
theorem zero3 : (![0, 0, 0] : Fin 3 → ℕ) = fun _ => 0 := by decide

/-- What the output buffer reads after the body's last store, whatever the table's and the output's buffers held before. -/
theorem out_eq (x0 x1 x2 x3 x4 : Vec F S4x1000 .f32) (x5 : Vec F S1000x4x4 .f32) (x6 o6 : Vec F S4x1000 .f32)
    (v6 v9 v12 v15 v26 : FVec F S4x1000 .f32) (X : BufTy.Contents (Elt F) arg8.view.ty)
    (h6 : v6 = k1_pay8 x4 x0) (h9 : v9 = k1_pay9 x4 x1) (h12 : v12 = k1_pay10 x4 x2) (h15 : v15 = k1_pay11 x4 x3)
    (h26 : v26 = k1_pay12 x2 x0 x3 x1) (hX : arg8.view.read (Elt F) X = k1_pay1 (k1_pay13 x4) (k1_pay14 x5)) (ho : o6 = x6)
    (f : BufTy.Contents (Elt F) arg9.view.ty) (f7 : BufTy.Contents (Elt F) arg7.view.ty) :
    View.read (Elt F) arg7.view (arg7.view.writes (Elt F) f7
        [⟨Rect.unit (s := S4x1000) ![0, 0] ![4, 1000] inb_S4x1000_S4x1000_0_0,
          k1_pay5 (st_k1_t2 (F := F) 𝒱 c bd arg0 harg0 arg1 harg1 arg2 harg2 arg3 harg3 arg4 harg4 arg5 harg5 arg6 harg6 arg7 harg7 arg8 harg8 arg9 harg9
            (arg9.view.writes (Elt F) f (pb_k1_t1 (F := F) 𝒱 c bd arg0 harg0 arg1 harg1 arg2 harg2 arg3 harg3 arg4 harg4 arg5 harg5 arg6 harg6 arg7 harg7 arg8 harg8 arg9 harg9 v6 v9 v12 v15 v26 X k1_t1_loop.trips))
            k1_pay3 k1_t2_loop.trips) o6⟩])
      = nmsOut x0 x1 x2 x3 x4 x5 x6 := by
  refine (View.read_writes_eq_canon _ _ _ fun y => ⟨_, List.mem_cons_self, ?_⟩).trans ?_
  · rw [Rect.mem_set_unit]
    intro a
    have := (y a).isLt
    fin_cases a
    · exact ⟨Nat.zero_le _, by simpa using this⟩
    · exact ⟨Nat.zero_le _, by simpa using this⟩
  · refine (View.canon_unit_zero zero2 inb_S4x1000_S4x1000_0_0 _).trans ?_
    rw [loops_eq 𝒱 c bd arg0 harg0 arg1 harg1 arg2 harg2 arg3 harg3 arg4 harg4 arg5 harg5 arg6 harg6 arg7 harg7 arg8 harg8 arg9 harg9 _ v6 v9 v12 v15 v26 X hX f, h6, h9, h12, h15, h26, ho]
    rfl

end Loops

end Cert.KernelIdeal.Run

end
-- ==== Proof.KI.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Nms
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! The suppression region, from any contents of the buffers it is entered with. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S4x1000 .f32 := win1_0.stage (cfg1.slots t 0)
abbrev hs1_0 (t : Fin cfg1.N) : (ms1_0 t).IsWhole := hstage1_0 0
abbrev ms1_1 (t : Fin cfg1.N) : Memref sig .tc .vmem S4x1000 .f32 := win1_1.stage (cfg1.slots t 1)
abbrev hs1_1 (t : Fin cfg1.N) : (ms1_1 t).IsWhole := hstage1_1 0
abbrev ms1_2 (t : Fin cfg1.N) : Memref sig .tc .vmem S4x1000 .f32 := win1_2.stage (cfg1.slots t 2)
abbrev hs1_2 (t : Fin cfg1.N) : (ms1_2 t).IsWhole := hstage1_2 0
abbrev ms1_3 (t : Fin cfg1.N) : Memref sig .tc .vmem S4x1000 .f32 := win1_3.stage (cfg1.slots t 3)
abbrev hs1_3 (t : Fin cfg1.N) : (ms1_3 t).IsWhole := hstage1_3 0
abbrev ms1_4 (t : Fin cfg1.N) : Memref sig .tc .vmem S4x1000 .f32 := win1_4.stage (cfg1.slots t 4)
abbrev hs1_4 (t : Fin cfg1.N) : (ms1_4 t).IsWhole := hstage1_4 0
abbrev ms1_5 (t : Fin cfg1.N) : Memref sig .tc .vmem S1000x4x4 .f32 := win1_5.stage (cfg1.slots t 5)
abbrev hs1_5 (t : Fin cfg1.N) : (ms1_5 t).IsWhole := hstage1_5 0
abbrev ms1_6 (t : Fin cfg1.N) : Memref sig .tc .vmem S4x1000 .f32 := win1_6.stage (cfg1.slots t 6)
abbrev hs1_6 (t : Fin cfg1.N) : (ms1_6 t).IsWhole := hstage1_6 0
abbrev ms1_7 (t : Fin cfg1.N) : Memref sig .tc .vmem S4x1000 .f32 := win1_7.stage (cfg1.slots t 7)
abbrev hs1_7 (t : Fin cfg1.N) : (ms1_7 t).IsWhole := hstage1_7 0
abbrev scM1_0 : Memref sig .tc .vmem S1000x4x4 .f32 := Memref.whole cc1_scratch0
abbrev scM1_1 : Memref sig .tc .vmem S1000x4x1000 .f32 := Memref.whole cc1_scratch1

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl
set_option maxHeartbeats 2000000 in
/-- The suppression body, on whole buffers: the inputs stay as they were, the scratch ends at some contents, and the output holds `nmsOut` of the inputs. -/
theorem kernelRun1 (c : Dev nD)
    (arg0 : Memref sig .tc .vmem S4x1000 .f32) (harg0 : arg0.IsWhole)
    (arg1 : Memref sig .tc .vmem S4x1000 .f32) (harg1 : arg1.IsWhole)
    (arg2 : Memref sig .tc .vmem S4x1000 .f32) (harg2 : arg2.IsWhole)
    (arg3 : Memref sig .tc .vmem S4x1000 .f32) (harg3 : arg3.IsWhole)
    (arg4 : Memref sig .tc .vmem S4x1000 .f32) (harg4 : arg4.IsWhole)
    (arg5 : Memref sig .tc .vmem S1000x4x4 .f32) (harg5 : arg5.IsWhole)
    (arg6 : Memref sig .tc .vmem S4x1000 .f32) (harg6 : arg6.IsWhole)
    (arg7 : Memref sig .tc .vmem S4x1000 .f32) (harg7 : arg7.IsWhole)
    (arg8 : Memref sig .tc .vmem S1000x4x4 .f32) (harg8 : arg8.IsWhole)
    (arg9 : Memref sig .tc .vmem S1000x4x1000 .f32) (harg9 : arg9.IsWhole)
    (x0 x1 x2 x3 x4 : Vec F S4x1000 .f32) (x5 : Vec F S1000x4x4 .f32) (x6 : Vec F S4x1000 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (nmsOut x0 x1 x2 x3 x4 x5 x6) ∗ (∃ d, owns (c : Thread nD τ) arg8 fullShare d) ∗ (∃ d, owns (c : Thread nD τ) arg9 fullShare d)) -∗ K ⟨⟩))
      ⊢ wp frame (wpE (defs₀ (F := F)) Variants.none c none) E (cc1__nms_kernel arg0 harg0 arg1 harg1 arg2 harg2 arg3 harg3 arg4 harg4 arg5 harg5 arg6 harg6 arg7 harg7 arg8 harg8 arg9 harg9) K := by
  simp only [cc1__nms_kernel_eq_skeleton]; unfold cc1__nms_kernel_skel
  simp only [k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    refine out_eq Variants.none c none arg0 harg0 arg1 harg1 arg2 harg2 arg3 harg3 arg4 harg4 arg5 harg5 arg6 harg6 arg7 harg7 arg8 harg8 arg9 harg9
      x0 x1 x2 x3 x4 x5 x6 _ _ _ _ _ _ _ ?_ ?_ ?_ ?_ ?_ ?_ (readAt_unread arg6 harg6 x6 zero2 inb_S4x1000_S4x1000_0_0) fs1 f7
    · exact congrArg₂ k1_pay8 (readAt_unread arg4 harg4 x4 zero2 inb_S4x1000_S4x1000_0_0) (readAt_unread arg0 harg0 x0 zero2 inb_S4x1000_S4x1000_0_0)
    · exact congrArg₂ k1_pay9 (readAt_unread arg4 harg4 x4 zero2 inb_S4x1000_S4x1000_0_0) (readAt_unread arg1 harg1 x1 zero2 inb_S4x1000_S4x1000_0_0)
    · exact congrArg₂ k1_pay10 (readAt_unread arg4 harg4 x4 zero2 inb_S4x1000_S4x1000_0_0) (readAt_unread arg2 harg2 x2 zero2 inb_S4x1000_S4x1000_0_0)
    · exact congrArg₂ k1_pay11 (readAt_unread arg4 harg4 x4 zero2 inb_S4x1000_S4x1000_0_0) (readAt_unread arg3 harg3 x3 zero2 inb_S4x1000_S4x1000_0_0)
    · have e := congr (congr (congrArg₂ (k1_pay12 (F := F)) (readAt_unread arg2 harg2 x2 zero2 inb_S4x1000_S4x1000_0_0) (readAt_unread arg0 harg0 x0 zero2 inb_S4x1000_S4x1000_0_0))
        (readAt_unread arg3 harg3 x3 zero2 inb_S4x1000_S4x1000_0_0)) (readAt_unread arg1 harg1 x1 zero2 inb_S4x1000_S4x1000_0_0)
      exact e
    · refine (View.read_writes_junk_eq_canon _ _).trans ((View.canon_unit_zero zero3 inb_S1000x4x4_S1000x4x4_0_0_0 _).trans ?_)
      exact congrArg₂ k1_pay1 (congrArg k1_pay13 (readAt_unread arg4 harg4 x4 zero2 inb_S4x1000_S4x1000_0_0))
        (congrArg k1_pay14 (readAt_unread arg5 harg5 x5 zero3 inb_S1000x4x4_S1000x4x4_0_0_0))
  isplitl [HS0]
  · iexists _, _; isplitr; swap; · iexact HS0
    ipureintro; rfl
  iexists _, _; isplitr; swap; · iexact HS1
  ipureintro; rfl

/-- The output block after the body. -/
def outsAt1 (c : Dev nD) (t : Fin cfg1.N) : Vec F S4x1000 .f32 :=
  nmsOut (iblk1 V c 0 t) (iblk1 V c 1 t) (iblk1 V c 2 t) (iblk1 V c 3 t) (iblk1 V c 4 t) (iblk1 V c 5 t) (iblk1 V c 6 t)

/-- The proof data of the suppression region. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  rw [show (dat1 V c).Φ t.castSucc = Pipeline.ΦA spec1 c from rfl, PhiA1_eq]
  unfold outsAt1
  iintro ⟨⟨⟨HR0, HR1, HR2, HR3, HR4, HR5, HR6, HR7, HR8, HR9, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernelRun1 c _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HR0 HR1 HR2 HR3 HR4 HR5 HR6 HR7 HR8 HR9 HS0 HS1 Hg]
  · isplitl [HR0 HR1 HR2 HR3 HR4 HR5 HR6 HR7 HR8 HR9 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row1 (t : Fin cfg1.N) :
    defs₀ (F := F) .tc cfg1.body (cfg1.bodyArgs t (cfg1.slots t)) = bodyAt1 t := by
  unfold defs₀; rw [Defs.onTc_tc]

/-- The suppression body meets its obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.KI.Run.lean ====
module

public import proofs.«01_k».proof.Proof.KI.Region0
public import proofs.«01_k».proof.Proof.KI.Region1

/-! The whole program: its segments, what every buffer holds between them, and the run. -/

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev argRefs : List (Ref sig .tc) := [main_arg0, main_arg1, main_arg2]

theorem hostOps0_fresh : (hostOps0 : List (HloOp τ sig (Elt F))).Forall fun op => op.fresh = ∅ := by
  simp only [List.Forall]; repeat' constructor
abbrev hostOps0_W : List (Ref sig .tc) := [main_call0_v0, main_call0_v1, main_call0_v2, main_call0_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_call0_v5, main_call0_values, main_call0_indices, main_call0_c, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_v11, main_call0_call0_c_0, main_call0_call0_v12, main_call0_call0_v13, main_call0_v6, main_call0_v7, main_call0_call1_c, main_call0_call1_v0, main_call0_call1_v1, main_call0_call1_c_0, main_call0_call1_v2, main_call0_call1_v3, main_call0_call1_v4, main_call0_call1_c_1, main_call0_call1_c_2, main_call0_call1_v5, main_call0_call1_v6, main_call0_call1_v7, main_call0_call1_v8, main_call0_call1_v9, main_call0_call1_v10, main_call0_call1_c_3, main_call0_call1_v11, main_call0_call1_v12, main_call0_call1_v13, main_call0_call1_cst, main_call0_call1_v14, main_call0_v8, main_call0_c_0, main_call0_call2_v0, main_call0_call2_c, main_call0_call2_v1, main_call0_call2_c_0, main_call0_call2_v2, main_call0_call2_v3, main_call0_call2_v4, main_call0_call2_c_1, main_call0_call2_v5, main_call0_call2_v6, main_call0_call2_c_2, main_call0_call2_v7, main_call0_call2_v8, main_call0_call2_c_3, main_call0_call2_v9, main_call0_call2_v10, main_call0_call2_v11, main_call0_call2_v12, main_call0_call2_v13, main_call0_call2_v14, main_call0_v9, main_call0_c_1, main_call0_v10, main_call0_v11, main_call0_v12, main_call0_v13, main_call0_v14, main_call0_v15, main_call0_v16, main_call0_v17, main_call0_v18, main_call0_v19, main_call0_v20, main_call0_v21]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_call0_v23, main_call0_v24, main_v0]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

variable (m : (ℓ : Loc nD τ sig) → Buf (Elt F) ℓ) (ρ : Dev nD → PrngReg)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers after the decoding region. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers after the suppression region. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers at the end of the program. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)
set_option backward.isDefEq.respectTransparency.types false in
/-- The decoding region as a segment, from the buffers at `W1` to the buffers at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
/-- The suppression region as a segment, from the buffers at `W3` to the buffers at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its five segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- From any memory with zero counters every execution ends; then every unscoped buffer of every core is at `W5`
    and every semaphore counter is at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- The frame: every execution ends with the three arguments as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W5_args m ρ c main_arg0 (by decide)),
     (h.1 c _ (mem_uc main_arg1 (by decide))).trans (W5_args m ρ c main_arg1 (by decide)),
     (h.1 c _ (mem_uc main_arg2 (by decide))).trans (W5_args m ρ c main_arg2 (by decide))⟩, h.2⟩) (run m ρ)

end Cert.KernelIdeal.Run

end
-- ==== Proof.RI.Frame.lean ====
module

public import proofs.«01_k».proof.Proof.Gen.ReferenceIdeal.Run

/-! The reference ends with its arguments unchanged and every counter at zero. -/

@[expose] public section

set_option maxRecDepth 16384

noncomputable section

namespace Cert.ReferenceIdeal.Run

open Idealize.ShloMosaic Idealize.ShloMosaic.TcCoe Idealize.SL.Sem
open Idealize.ShloMosaic.StableHlo
open Cert.ReferenceIdeal Cert.ReferenceIdeal.Gen Cert.ReferenceIdeal.Value

variable {F : FTy → Type} [FloatOps F]

/-- The reference has no semaphores. -/
theorem no_sem : ∀ sm : SemLoc sig, False := by decide

/-- The argument buffers. -/
abbrev argRefs : List (Ref sig .tc) := [main_arg0, main_arg1, main_arg2]

/-- A buffer that no list of a sequence of operation lists changes is unchanged by the sequence. -/
theorem afterL_keep (r : DevRef τ sig) : ∀ (items : List (List (HloOp τ sig (Elt F)))),
    (∀ ops ∈ items, ∀ V : Valuation τ sig (Elt F), after ops V r = V r) → ∀ V, afterL items V r = V r
  | [], _, _ => rfl
  | ops :: rest, h, V => by
    rw [afterL_cons]
    exact (afterL_keep r rest (fun o ho => h o (List.mem_cons_of_mem _ ho)) _).trans (h ops List.mem_cons_self V)

theorem disjoint_args {W : List (Ref sig .tc)} (h : ∀ r ∈ argRefs, r ∉ W) {r : Ref sig .tc} (hr : r ∈ argRefs) : r ∉ W := h r hr

/-- The operations before the loop do not write the arguments. -/
theorem pre_keep {r : Ref sig .tc} (hr : r ∈ argRefs) :
    ∀ ops ∈ (preI : List (List (HloOp τ sig (Elt F)))), ∀ V : Valuation τ sig (Elt F), after ops V (Proc.devRef .tc r) = V (Proc.devRef .tc r) := by
  simp only [preI, List.forall_mem_cons]
  exact ⟨fun V => after_of_writes_sub hostOps0 V hostOps0_writes (disjoint_args (by decide +kernel) hr), fun V => after_of_writes_sub hostOps0_1 V hostOps0_1_writes (disjoint_args (by decide +kernel) hr), fun V => after_of_writes_sub hostOps0_2 V hostOps0_2_writes (disjoint_args (by decide +kernel) hr), fun V => after_of_writes_sub hostOps0_3 V hostOps0_3_writes (disjoint_args (by decide +kernel) hr), fun V => after_of_writes_sub hostOps0_4 V hostOps0_4_writes (disjoint_args (by decide +kernel) hr), fun V => after_of_writes_sub hostOps0_5 V hostOps0_5_writes (disjoint_args (by decide +kernel) hr), fun V => after_of_writes_sub hostOps0_6 V hostOps0_6_writes (disjoint_args (by decide +kernel) hr), fun V => after_of_writes_sub hostOps0_7 V hostOps0_7_writes (disjoint_args (by decide +kernel) hr), fun V => after_of_writes_sub hostOps0_8 V hostOps0_8_writes (disjoint_args (by decide +kernel) hr), fun V => after_of_writes_sub hostOps0_9 V hostOps0_9_writes (disjoint_args (by decide +kernel) hr), fun V => after_of_writes_sub hostOps0_10 V hostOps0_10_writes (disjoint_args (by decide +kernel) hr), fun V => after_of_writes_sub hostOps0_11 V hostOps0_11_writes (disjoint_args (by decide +kernel) hr), fun V => after_of_writes_sub hostOps0_12 V hostOps0_12_writes (disjoint_args (by decide +kernel) hr), fun V => after_of_writes_sub hostOps0_13 V hostOps0_13_writes (disjoint_args (by decide +kernel) hr), fun V => after_of_writes_sub hostOps0_14 V hostOps0_14_writes (disjoint_args (by decide +kernel) hr), fun V => after_of_writes_sub hostOps0_15 V hostOps0_15_writes (disjoint_args (by decide +kernel) hr), fun V => after_of_writes_sub hostOps0_16 V hostOps0_16_writes (disjoint_args (by decide +kernel) hr), fun V => after_of_writes_sub hostOps0_17 V hostOps0_17_writes (disjoint_args (by decide +kernel) hr), fun _ h => absurd h List.not_mem_nil⟩

/-- The loop body does not write the arguments. -/
theorem body_keep {r : Ref sig .tc} (hr : r ∈ argRefs) :
    ∀ ops ∈ (bodyI : List (List (HloOp τ sig (Elt F)))), ∀ V : Valuation τ sig (Elt F), after ops V (Proc.devRef .tc r) = V (Proc.devRef .tc r) := by
  simp only [bodyI, List.forall_mem_cons]
  exact ⟨fun V => after_of_writes_sub while0Ops0 V while0Ops0_writes (disjoint_args (by decide +kernel) hr), fun V => after_of_writes_sub while0Ops0_1 V while0Ops0_1_writes (disjoint_args (by decide +kernel) hr), fun V => after_of_writes_sub while0Ops0_2 V while0Ops0_2_writes (disjoint_args (by decide +kernel) hr), fun V => after_of_writes_sub while0Ops0_3 V while0Ops0_3_writes (disjoint_args (by decide +kernel) hr), fun _ h => absurd h List.not_mem_nil⟩

variable (m : (ℓ : Loc nD τ sig) → Buf (Elt F) ℓ) (ρ : Dev nD → PrngReg)

/-- Every round of the loop leaves the arguments as they were. -/
theorem atK_args (c : Dev nD) {r : Ref sig .tc} (hr : r ∈ argRefs) :
    ∀ k, atK m k c (Proc.devRef .tc r) = m ((c : Thread nD τ).loc r)
  | 0 => afterL_keep _ _ (pre_keep hr) _
  | k + 1 => (afterL_keep _ _ (body_keep hr) _).trans
      ((after_of_writes_sub condOps _ condOps_writes (disjoint_args (by decide +kernel) hr)).trans (atK_args c hr k))

/-- What the operations after the loop write. -/
abbrev hostOps0_18_W : List (Ref sig .tc) := [main_v159, main_v160, main_v161, main_v162, main_v163]
theorem hostOps0_18_writes : (hostOps0_18 : List (HloOp τ sig (Elt F))).Forall fun op => op.writes ⊆ (hostOps0_18_W.map (Proc.devRef (τ := τ) .tc)).toFinset :=
  StableHlo.forall_writes_sub_of_map rfl

/-- At the end the arguments are as they were. -/
theorem final_args (c : Dev nD) {r : Ref sig .tc} (hr : r ∈ argRefs) :
    finalContents condOps preI bodyI postI 1000 m c (Proc.devRef .tc r) = m ((c : Thread nD τ).loc r) := by
  refine (after_of_writes_sub hostOps0_18 _ hostOps0_18_writes (disjoint_args (by decide +kernel) hr)).trans ?_
  exact (after_of_writes_sub condOps _ condOps_writes (disjoint_args (by decide +kernel) hr)).trans (atK_args m c hr 1000)

/-- The frame: every execution ends with the three arguments as launched and every semaphore counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h c main_arg0 rfl).trans (final_args m c (by decide)), (h c main_arg1 rfl).trans (final_args m c (by decide)),
     (h c main_arg2 rfl).trans (final_args m c (by decide))⟩, funext fun g => (no_sem g.2).elim⟩) (run_fold m ρ)

end Cert.ReferenceIdeal.Run

end
-- ==== Proof.KI.Host.lean ====
module

public import proofs.«01_k».proof.Proof.KI.Run
public import Idealize.ShloMosaic.Lib.StableHlo.RunRead

/-! What the host operations of the kernel program leave in the buffers the suppression call and the result read. -/

@[expose] public section

set_option maxRecDepth 16384

noncomputable section

namespace Cert.KernelIdeal.Run

open Idealize.ShloMosaic Idealize.ShloMosaic.TcCoe Idealize.ShloMosaic.Tactic
open Cert.KernelIdeal Cert.KernelIdeal.Gen

variable {F : FTy → Type} [FloatOps F]

/-- The 1000 largest scores of each image. -/
def topV (x : FVec F S4x400000 .f32) : FVec F S4x1000 .f32 :=
  (Host.topK S4x1000 1 (FloatOps.cmpfTotal .gt) x sliceFits_S4x400000_S4x1000).1

/-- The flat positions of the 1000 largest scores of each image. -/
def topI (x : FVec F S4x400000 .f32) : IVec S4x1000 32 :=
  (Host.topK S4x1000 1 (FloatOps.cmpfTotal .gt) x sliceFits_S4x400000_S4x1000).2

/-- One integer at every entry. -/
abbrev lit (n : BitVec 32) : IVec S4x1000 32 := broadcastInDim S4x1000 ![] bcast_S_S4x1000 (constantI S_ 32 n)

/-- The flat positions floor-divided by 80. -/
def fdiv (i : IVec S4x1000 32) : IVec S4x1000 32 :=
  select (andi (cmpi .ne (signi i) (broadcastInDim S4x1000 ![] bcast_S_S4x1000 (signi (constantI S_ 32 80#32))))
      (cmpi .ne (Host.remsi i (lit 80#32)) (lit 0#32)))
    (subi (Host.divsi i (lit 80#32)) (lit 1#32)) (Host.divsi i (lit 80#32))

/-- The divisor of the remainder. -/
abbrev dsor : IVec S_ 32 :=
  select (cmpi .eq (constantI S_ 32 80#32) (constantI S_ 32 0#32)) (constantI S_ 32 1#32) (constantI S_ 32 80#32)

/-- The remainder of the flat positions by 80. -/
def frem (i : IVec S4x1000 32) : IVec S4x1000 32 :=
  select (andi (cmpi .ne (cmpi .slt (Host.remsi i (broadcastInDim S4x1000 ![] bcast_S_S4x1000 dsor)) (lit 0#32))
        (broadcastInDim S4x1000 ![] bcast_S_S4x1000 (cmpi .slt dsor (constantI S_ 32 0#32))))
      (cmpi .ne (Host.remsi i (broadcastInDim S4x1000 ![] bcast_S_S4x1000 dsor)) (lit 0#32)))
    (addi (Host.remsi i (broadcastInDim S4x1000 ![] bcast_S_S4x1000 dsor)) (broadcastInDim S4x1000 ![] bcast_S_S4x1000 dsor))
    (Host.remsi i (broadcastInDim S4x1000 ![] bcast_S_S4x1000 dsor))

/-- The class numbers, from one. -/
def clsOf (i : IVec S4x1000 32) : FVec F S4x1000 .f32 := sitofp .f32 (addi (frem i) (lit 1#32))

/-- One integer at every entry, with a last axis of one. -/
abbrev lit1 (n : BitVec 32) : IVec S4x1000x1 32 := broadcastInDim S4x1000x1 ![] bcast_S_S4x1000x1 (constantI S_ 32 n)

/-- A negative position counts from the end. -/
def wrap (j : IVec S4x1000x1 32) : IVec S4x1000x1 32 :=
  select (cmpi .slt j (lit1 0#32)) (addi j (lit1 5000#32)) j

/-- Whether a position lies among the 5000 boxes. -/
def inRange (j : IVec S4x1000x1 32) : IVec S4x1000 1 :=
  Host.reduce IntOp.andi (andi (cmpi .sge j (lit1 0#32)) (cmpi .sle j (broadcastInDim S4x1000x1 ![0, 1, 2]
    bcast_S1x1x1_S4x1000x1_0_1_2 (broadcastInDim S1x1x1 ![2] bcast_S1_S1x1x1_2 (constantI S1 32 4999#32)))))
    (constantI S_ 1 1#1) reducesTo_S4x1000x1_S4x1000_d2 h_S_

/-- The boxes at the given positions. -/
def takeRows (b : FVec F S4x5000x4 .f32) (j : IVec S4x1000x1 32) : FVec F S4x1000x4 .f32 :=
  select (broadcastInDim S4x1000x4 ![0, 1] bcast_S4x1000_S4x1000x4_0_1 (inRange (wrap j)))
    (Host.gather gather_S4x5000x4_S4x1000x1_S4x1000x4_2_1_0_0_1_2_114 b (wrap j))
    (broadcastInDim S4x1000x4 ![] bcast_S_S4x1000x4 (constant S_ .f32 0x7FC00000#32))

/-- The selected boxes. -/
def boxesOf (b : FVec F S4x5000x4 .f32) (i : IVec S4x1000 32) : FVec F S4x1000x4 .f32 :=
  takeRows b (broadcastInDim S4x1000x1 ![0, 1] bcast_S4x1000_S4x1000x1_0_1 (fdiv i))

section
variable (V : Valuation τ sig (Elt F))
set_option maxHeartbeats 4000000

theorem h1_values : StableHlo.after hostOps1 V (Proc.devRef .tc main_call0_values)
    = topV (shapeCast S4x400000 (V (Proc.devRef .tc main_call0_v4_1)) shapeCasts_S4x5000x80_S4x400000) := by
  unfold topV
  after_reads_simp
  rfl

theorem h1_v12 : StableHlo.after hostOps1 V (Proc.devRef .tc main_call0_v12)
    = clsOf (topI (shapeCast S4x400000 (V (Proc.devRef .tc main_call0_v4_1)) shapeCasts_S4x5000x80_S4x400000)) := by
  unfold clsOf frem topI
  after_reads_simp
  simp only [StableHlo.TRef.ofBuf_toBuf]
  rfl

/-- The selected boxes after the second stretch of host operations. -/
theorem h1_v8 : StableHlo.after hostOps1 V (Proc.devRef .tc main_call0_v8)
    = boxesOf (V (Proc.devRef .tc main_call0_v4_0))
        (topI (shapeCast S4x400000 (V (Proc.devRef .tc main_call0_v4_1)) shapeCasts_S4x5000x80_S4x400000)) := by
  unfold boxesOf takeRows inRange wrap fdiv topI
  after_reads_simp
  simp only [StableHlo.TRef.ofBuf_toBuf]
  rfl

theorem h1_v15 : StableHlo.after hostOps1 V (Proc.devRef .tc main_call0_v15)
    = shapeCast S4x1000 (extractStridedSlice S4x1000x1 ![0, 0, 0] (StableHlo.after hostOps1 V (Proc.devRef .tc main_call0_v8))
        slices_S4x1000x4_S4x1000x1_0_0_0) shapeCasts_S4x1000x1_S4x1000 := by
  after_reads_simp
  rfl

theorem h1_v17 : StableHlo.after hostOps1 V (Proc.devRef .tc main_call0_v17)
    = shapeCast S4x1000 (extractStridedSlice S4x1000x1 ![0, 0, 1] (StableHlo.after hostOps1 V (Proc.devRef .tc main_call0_v8))
        slices_S4x1000x4_S4x1000x1_0_0_1) shapeCasts_S4x1000x1_S4x1000 := by
  after_reads_simp
  rfl

theorem h1_v19 : StableHlo.after hostOps1 V (Proc.devRef .tc main_call0_v19)
    = shapeCast S4x1000 (extractStridedSlice S4x1000x1 ![0, 0, 2] (StableHlo.after hostOps1 V (Proc.devRef .tc main_call0_v8))
        slices_S4x1000x4_S4x1000x1_0_0_2) shapeCasts_S4x1000x1_S4x1000 := by
  after_reads_simp
  rfl

theorem h1_v21 : StableHlo.after hostOps1 V (Proc.devRef .tc main_call0_v21)
    = shapeCast S4x1000 (extractStridedSlice S4x1000x1 ![0, 0, 3] (StableHlo.after hostOps1 V (Proc.devRef .tc main_call0_v8))
        slices_S4x1000x4_S4x1000x1_0_0_3) shapeCasts_S4x1000x1_S4x1000 := by
  after_reads_simp
  rfl

/-- The selected boxes with the box axis in front. -/
theorem h1_v13 : StableHlo.after hostOps1 V (Proc.devRef .tc main_call0_v13)
    = transpose S1000x4x4 [1, 0, 2] (StableHlo.after hostOps1 V (Proc.devRef .tc main_call0_v8))
        transposes_S4x1000x4_S1000x4x4_1_0_2 := by
  after_reads_simp
  rfl

/-- The class scores the first call reads. -/
theorem h0_v1 : StableHlo.after hostOps0 V (Proc.devRef .tc main_call0_v1)
    = shapeCast S4x5000x80 (shapeCast S20000x80 (V (Proc.devRef .tc main_arg1)) shapeCasts_S20000x80x1x1_S20000x80)
        shapeCasts_S20000x80_S4x5000x80 := by
  after_reads_simp
  rfl

/-- The deltas the first call reads. -/
theorem h0_v3 : StableHlo.after hostOps0 V (Proc.devRef .tc main_call0_v3)
    = shapeCast S4x5000x4 (shapeCast S20000x4 (V (Proc.devRef .tc main_arg2)) shapeCasts_S20000x4x1x1_S20000x4)
        shapeCasts_S20000x4_S4x5000x4 := by
  after_reads_simp
  rfl

/-- The result, from the buffers before the last stretch. -/
theorem h2_v0 : StableHlo.after hostOps2 V (Proc.devRef .tc main_v0)
    = concatenate S4x1000x6 2 [⟨S4x1000x4, (V (Proc.devRef .tc main_call0_v8) : FVec F S4x1000x4 .f32)⟩,
        ⟨S4x1000x1, broadcastInDim S4x1000x1 ![0, 1] bcast_S4x1000_S4x1000x1_0_1 (V (Proc.devRef .tc main_call0_v22) : FVec F S4x1000 .f32)⟩,
        ⟨S4x1000x1, broadcastInDim S4x1000x1 ![0, 1] bcast_S4x1000_S4x1000x1_0_1 (V (Proc.devRef .tc main_call0_v12) : FVec F S4x1000 .f32)⟩]
        concatenates_S4x1000x4_S4x1000x1_S4x1000x1_S4x1000x6_d2 := by
  after_reads_simp
  rfl

end

end Cert.KernelIdeal.Run
-- ==== Proof.RI.Host.lean ====
module

public import proofs.«01_k».proof.Proof.RI.Frame
public import Idealize.ShloMosaic.Lib.StableHlo.RunRead

/-! What the host operations of the reference leave in the buffers its loop and its result read. -/

@[expose] public section

set_option maxRecDepth 16384

noncomputable section

namespace Cert.ReferenceIdeal.Run

open Idealize.ShloMosaic Idealize.ShloMosaic.TcCoe Idealize.ShloMosaic.Tactic
open Idealize.ShloMosaic.StableHlo
open Cert.ReferenceIdeal Cert.ReferenceIdeal.Gen Cert.ReferenceIdeal.Value

variable {F : FTy → Type} [FloatOps F]

/-- The 1000 largest scores of each image. -/
def topV (x : FVec F S4x400000 .f32) : FVec F S4x1000 .f32 :=
  (Host.topK S4x1000 1 (FloatOps.cmpfTotal .gt) x sliceFits_S4x400000_S4x1000).1

/-- The flat positions of the 1000 largest scores of each image. -/
def topI (x : FVec F S4x400000 .f32) : IVec S4x1000 32 :=
  (Host.topK S4x1000 1 (FloatOps.cmpfTotal .gt) x sliceFits_S4x400000_S4x1000).2

/-- Coordinate 0 of every box. -/
abbrev col0 (x : FVec F S4x5000x4 .f32) : FVec F S4x5000 .f32 :=
  shapeCast S4x5000 (extractStridedSlice S4x5000x1 ![0, 0, 0] x slices_S4x5000x4_S4x5000x1_0_0_0) shapeCasts_S4x5000x1_S4x5000
/-- Coordinate 0 of every selected box. -/
abbrev sel0 (x : FVec F S4x1000x4 .f32) : FVec F S4x1000 .f32 :=
  shapeCast S4x1000 (extractStridedSlice S4x1000x1 ![0, 0, 0] x slices_S4x1000x4_S4x1000x1_0_0_0) shapeCasts_S4x1000x1_S4x1000
/-- Coordinate 1 of every box. -/
abbrev col1 (x : FVec F S4x5000x4 .f32) : FVec F S4x5000 .f32 :=
  shapeCast S4x5000 (extractStridedSlice S4x5000x1 ![0, 0, 1] x slices_S4x5000x4_S4x5000x1_0_0_1) shapeCasts_S4x5000x1_S4x5000
/-- Coordinate 1 of every selected box. -/
abbrev sel1 (x : FVec F S4x1000x4 .f32) : FVec F S4x1000 .f32 :=
  shapeCast S4x1000 (extractStridedSlice S4x1000x1 ![0, 0, 1] x slices_S4x1000x4_S4x1000x1_0_0_1) shapeCasts_S4x1000x1_S4x1000
/-- Coordinate 2 of every box. -/
abbrev col2 (x : FVec F S4x5000x4 .f32) : FVec F S4x5000 .f32 :=
  shapeCast S4x5000 (extractStridedSlice S4x5000x1 ![0, 0, 2] x slices_S4x5000x4_S4x5000x1_0_0_2) shapeCasts_S4x5000x1_S4x5000
/-- Coordinate 2 of every selected box. -/
abbrev sel2 (x : FVec F S4x1000x4 .f32) : FVec F S4x1000 .f32 :=
  shapeCast S4x1000 (extractStridedSlice S4x1000x1 ![0, 0, 2] x slices_S4x1000x4_S4x1000x1_0_0_2) shapeCasts_S4x1000x1_S4x1000
/-- Coordinate 3 of every box. -/
abbrev col3 (x : FVec F S4x5000x4 .f32) : FVec F S4x5000 .f32 :=
  shapeCast S4x5000 (extractStridedSlice S4x5000x1 ![0, 0, 3] x slices_S4x5000x4_S4x5000x1_0_0_3) shapeCasts_S4x5000x1_S4x5000
/-- Coordinate 3 of every selected box. -/
abbrev sel3 (x : FVec F S4x1000x4 .f32) : FVec F S4x1000 .f32 :=
  shapeCast S4x1000 (extractStridedSlice S4x1000x1 ![0, 0, 3] x slices_S4x1000x4_S4x1000x1_0_0_3) shapeCasts_S4x1000x1_S4x1000

/-- One number for every box. -/
abbrev num (w : BitVec 32) : FVec F S4x5000 .f32 := broadcastInDim S4x5000 ![] bcast_S_S4x5000 (constant S_ .f32 w)

/-- Clipped between two numbers. -/
abbrev clip (lo hi : BitVec 32) (x : FVec F S4x5000 .f32) : FVec F S4x5000 .f32 := minimumf (num hi) (maximumf (num lo) x)

/-- Widths, heights and centres of the boxes before and after the deltas. -/
def wR (r : FVec F S4x5000x4 .f32) : FVec F S4x5000 .f32 := subf (col2 r) (col0 r)
def hR (r : FVec F S4x5000x4 .f32) : FVec F S4x5000 .f32 := subf (col3 r) (col1 r)
def cxR (r d : FVec F S4x5000x4 .f32) : FVec F S4x5000 .f32 :=
  addf (addf (col0 r) (mulf (num 0x3F000000#32) (wR r))) (mulf (col0 d) (wR r))
def cyR (r d : FVec F S4x5000x4 .f32) : FVec F S4x5000 .f32 :=
  addf (addf (col1 r) (mulf (num 0x3F000000#32) (hR r))) (mulf (col1 d) (hR r))
def pwR (r d : FVec F S4x5000x4 .f32) : FVec F S4x5000 .f32 :=
  mulf (num 0x3F000000#32) (mulf (wR r) (Host.exp (clip 0xC0800000#32 0x40800000#32 (col2 d))))
def phR (r d : FVec F S4x5000x4 .f32) : FVec F S4x5000 .f32 :=
  mulf (num 0x3F000000#32) (mulf (hR r) (Host.exp (clip 0xC0800000#32 0x40800000#32 (col3 d))))

/-- A column as a slice. -/
abbrev asCol (x : FVec F S4x5000 .f32) : FVec F S4x5000x1 .f32 := broadcastInDim S4x5000x1 ![0, 1] bcast_S4x5000_S4x5000x1_0_1 x

/-- The decoded boxes. -/
def boxesR (r d : FVec F S4x5000x4 .f32) : FVec F S4x5000x4 .f32 :=
  concatenate S4x5000x4 2 [⟨S4x5000x1, asCol (clip 0x00000000#32 0x44800000#32 (subf (cxR r d) (pwR r d)))⟩,
    ⟨S4x5000x1, asCol (clip 0x00000000#32 0x44800000#32 (subf (cyR r d) (phR r d)))⟩,
    ⟨S4x5000x1, asCol (clip 0x00000000#32 0x44800000#32 (addf (cxR r d) (pwR r d)))⟩,
    ⟨S4x5000x1, asCol (clip 0x00000000#32 0x44800000#32 (addf (cyR r d) (phR r d)))⟩]
    concatenates_S4x5000x1_S4x5000x1_S4x5000x1_S4x5000x1_S4x5000x4_d2

/-- The decoded boxes, each repeated for the 80 classes. -/
def repR (b : FVec F S4x5000x4 .f32) : FVec F S4x400000x4 .f32 :=
  shapeCast S4x400000x4 (broadcastInDim S4x5000x80x4 ![0, 1, 2, 3] bcast_S4x5000x1x4_S4x5000x80x4_0_1_2_3
    (broadcastInDim S4x5000x1x4 ![0, 1, 3] bcast_S4x5000x4_S4x5000x1x4_0_1_3 b)) shapeCasts_S4x5000x80x4_S4x400000x4

/-- The class numbers, repeated for every box. -/
def clsR : FVec F S4x400000 .f32 :=
  shapeCast S4x400000 (broadcastInDim S4x5000x80 ![0, 1, 2] bcast_S1x1x80_S4x5000x80_0_1_2
    (broadcastInDim S1x1x80 ![2] bcast_S80_S1x1x80_2 (addf (sitofp .f32 (iotaInDim S80 32 0))
      (broadcastInDim S80 ![] bcast_S_S80 (constant S_ .f32 0x3F800000#32))))) shapeCasts_S4x5000x80_S4x400000

/-- The sigmoid of the class scores. -/
def sigR (s : FVec F S4x5000x80 .f32) : FVec F S4x5000x80 .f32 :=
  Host.divf (broadcastInDim S4x5000x80 ![] bcast_S_S4x5000x80 (constant S_ .f32 0x3F800000#32))
    (addf (broadcastInDim S4x5000x80 ![] bcast_S_S4x5000x80 (constant S_ .f32 0x3F800000#32)) (Host.exp (Host.negf s)))

/-- The scores above the threshold, the others zero. -/
def scoR (s : FVec F S4x5000x80 .f32) : FVec F S4x400000 .f32 :=
  select (cmpf .ogt (shapeCast S4x400000 (sigR s) shapeCasts_S4x5000x80_S4x400000)
      (broadcastInDim S4x400000 ![] bcast_S_S4x400000 (constant S_ .f32 0x3D4CCCCD#32)))
    (shapeCast S4x400000 (sigR s) shapeCasts_S4x5000x80_S4x400000)
    (broadcastInDim S4x400000 ![] bcast_S_S4x400000 (constant S_ .f32 0x00000000#32))

/-- The class scores of an argument. -/
abbrev clsArg (x : FVec F S20000x80x1x1 .f32) : FVec F S4x5000x80 .f32 :=
  shapeCast S4x5000x80 (shapeCast S20000x80 x shapeCasts_S20000x80x1x1_S20000x80) shapeCasts_S20000x80_S4x5000x80

/-- The deltas of an argument. -/
abbrev regArg (x : FVec F S20000x4x1x1 .f32) : FVec F S4x5000x4 .f32 :=
  shapeCast S4x5000x4 (shapeCast S20000x4 x shapeCasts_S20000x4x1x1_S20000x4) shapeCasts_S20000x4_S4x5000x4

/-- One integer at every entry. -/
abbrev lit (n : BitVec 32) : IVec S4x1000 32 := broadcastInDim S4x1000 ![] bcast_S_S4x1000 (constantI S_ 32 n)
abbrev lit1 (n : BitVec 32) : IVec S4x1000x1 32 := broadcastInDim S4x1000x1 ![] bcast_S_S4x1000x1 (constantI S_ 32 n)

/-- A negative position counts from the end. -/
def wrap1 (j : IVec S4x1000x1 32) : IVec S4x1000x1 32 := select (cmpi .slt j (lit1 0#32)) (addi j (lit1 400000#32)) j
def wrap (j : IVec S4x1000 32) : IVec S4x1000x1 32 :=
  shapeCast S4x1000x1 (select (cmpi .slt j (lit 0#32)) (addi j (lit 400000#32)) j) shapeCasts_S4x1000_S4x1000x1

/-- Whether a position lies among the 400000 scores. -/
def inRange (j : IVec S4x1000x1 32) : IVec S4x1000 1 :=
  Host.reduce IntOp.andi (andi (cmpi .sge j (lit1 0#32)) (cmpi .sle j (broadcastInDim S4x1000x1 ![0, 1, 2]
    bcast_S1x1x1_S4x1000x1_0_1_2 (broadcastInDim S1x1x1 ![2] bcast_S1_S1x1x1_2 (constantI S1 32 399999#32)))))
    (constantI S_ 1 1#1) reducesTo_S4x1000x1_S4x1000_d2 h_S_

/-- The repeated boxes at the given positions. -/
def takeRows (b : FVec F S4x400000x4 .f32) (j : IVec S4x1000x1 32) : FVec F S4x1000x4 .f32 :=
  select (broadcastInDim S4x1000x4 ![0, 1] bcast_S4x1000_S4x1000x4_0_1 (inRange (wrap1 j)))
    (Host.gather gather_S4x400000x4_S4x1000x1_S4x1000x4_2_1_0_0_1_2_114 b (wrap1 j))
    (broadcastInDim S4x1000x4 ![] bcast_S_S4x1000x4 (constant S_ .f32 0x7FC00000#32))

/-- The repeated class numbers at the given positions. -/
def takeCls (b : FVec F S4x400000 .f32) (j : IVec S4x1000 32) : FVec F S4x1000 .f32 :=
  select (inRange (wrap j)) (Host.gather gather_S4x400000_S4x1000x1_S4x1000_n_1_0_0_1_2_11 b (wrap j))
    (broadcastInDim S4x1000 ![] bcast_S_S4x1000 (constant S_ .f32 0x7FC00000#32))

/-- The boxes moved apart by class. -/
def shiftR (b : FVec F S4x1000x4 .f32) (l : FVec F S4x1000 .f32) : FVec F S4x1000x4 .f32 :=
  addf b (broadcastInDim S4x1000x4 ![0, 1, 2] bcast_S4x1000x1_S4x1000x4_0_1_2
    (mulf (broadcastInDim S4x1000x1 ![0, 1] bcast_S4x1000_S4x1000x1_0_1 l)
      (broadcastInDim S4x1000x1 ![] bcast_S_S4x1000x1
        (addf (maximumf (constant S_ .f32 0x44800000#32) (constant S_ .f32 0x44800000#32)) (constant S_ .f32 0x40000000#32)))))

/-- A column repeated along the last axis, and along the middle axis. -/
abbrev rowB (x : FVec F S4x1000 .f32) : FVec F S4x1000x1000 .f32 :=
  broadcastInDim S4x1000x1000 ![0, 1, 2] bcast_S4x1000x1_S4x1000x1000_0_1_2 (broadcastInDim S4x1000x1 ![0, 1] bcast_S4x1000_S4x1000x1_0_1 x)
abbrev colB (x : FVec F S4x1000 .f32) : FVec F S4x1000x1000 .f32 :=
  broadcastInDim S4x1000x1000 ![0, 1, 2] bcast_S4x1x1000_S4x1000x1000_0_1_2 (broadcastInDim S4x1x1000 ![0, 2] bcast_S4x1000_S4x1x1000_0_2 x)
abbrev numB (w : BitVec 32) : FVec F S4x1000x1000 .f32 := broadcastInDim S4x1000x1000 ![] bcast_S_S4x1000x1000 (constant S_ .f32 w)

/-- The overlap of each pair. -/
def interR (b : FVec F S4x1000x4 .f32) : FVec F S4x1000x1000 .f32 :=
  mulf (maximumf (subf (minimumf (rowB (sel2 b)) (colB (sel2 b))) (maximumf (rowB (sel0 b)) (colB (sel0 b)))) (numB 0x00000000#32))
    (maximumf (subf (minimumf (rowB (sel3 b)) (colB (sel3 b))) (maximumf (rowB (sel1 b)) (colB (sel1 b)))) (numB 0x00000000#32))

/-- The area of each box. -/
def areaR (b : FVec F S4x1000x4 .f32) : FVec F S4x1000 .f32 := mulf (subf (sel2 b) (sel0 b)) (subf (sel3 b) (sel1 b))

/-- The overlap of each pair over its union. -/
def iouR (b : FVec F S4x1000x4 .f32) : FVec F S4x1000x1000 .f32 :=
  Host.divf (interR b) (maximumf (subf (addf (rowB (areaR b)) (colB (areaR b))) (interR b)) (numB 0x358637BD#32))

section
variable (V : Valuation τ sig (Elt F))
set_option maxHeartbeats 8000000

/-- What every buffer holds before the selection. -/
abbrev stA : Valuation τ sig (Elt F) :=
  after hostOps0_13 (after hostOps0_12 (after hostOps0_11 (after hostOps0_10 (after hostOps0_9 (after hostOps0_8
    (after hostOps0_7 (after hostOps0_6 (after hostOps0_5 (after hostOps0_4 (after hostOps0_3 (after hostOps0_2
      (after hostOps0_1 (after hostOps0 V)))))))))))))

theorem stA_v81 : stA V (Proc.devRef .tc main_v81) = scoR (clsArg (V (Proc.devRef .tc main_arg1))) := by
  unfold scoR sigR
  after_reads_simp
  simp only [TRef.ofBuf_toBuf]
  rfl

theorem stA_v77 : stA V (Proc.devRef .tc main_v77) = clsR := by
  unfold clsR
  after_reads_simp
  rfl

/-- The boxes before the four coordinates are decoded further. -/
abbrev stB : Valuation τ sig (Elt F) :=
  after hostOps0_11 (after hostOps0_10 (after hostOps0_9 (after hostOps0_8
    (after hostOps0_7 (after hostOps0_6 (after hostOps0_5 (after hostOps0_4 (after hostOps0_3 (after hostOps0_2
      (after hostOps0_1 (after hostOps0 V)))))))))))

theorem r12_v71 : after hostOps0_12 V (Proc.devRef .tc main_v71)
    = repR (concatenate S4x5000x4 2 [⟨S4x5000x1, asCol (V (Proc.devRef .tc main_v51))⟩,
    ⟨S4x5000x1, asCol (V (Proc.devRef .tc main_v55))⟩, ⟨S4x5000x1, asCol (V (Proc.devRef .tc main_v59))⟩,
    ⟨S4x5000x1, asCol (V (Proc.devRef .tc main_v63))⟩]
    concatenates_S4x5000x1_S4x5000x1_S4x5000x1_S4x5000x1_S4x5000x4_d2) := by
  unfold repR
  after_reads_simp
  change shapeCast S4x400000x4 (broadcastInDim S4x5000x80x4 ![0, 1, 2, 3] bcast_S4x5000x1x4_S4x5000x80x4_0_1_2_3
    (broadcastInDim S4x5000x1x4 ![0, 1, 3] bcast_S4x5000x4_S4x5000x1x4_0_1_3 (concatenate S4x5000x4 2
      [⟨S4x5000x1, upto hostOps0_12 V 4 (Proc.devRef .tc main_v64)⟩, ⟨S4x5000x1, upto hostOps0_12 V 4 (Proc.devRef .tc main_v65)⟩,
       ⟨S4x5000x1, upto hostOps0_12 V 4 (Proc.devRef .tc main_v66)⟩, ⟨S4x5000x1, upto hostOps0_12 V 4 (Proc.devRef .tc main_v67)⟩]
      concatenates_S4x5000x1_S4x5000x1_S4x5000x1_S4x5000x1_S4x5000x4_d2))) shapeCasts_S4x5000x80x4_S4x400000x4 = _
  have h0 : upto hostOps0_12 V 4 (Proc.devRef .tc main_v64) = asCol (V (Proc.devRef .tc main_v51)) := by after_reads_simp
  have h1 : upto hostOps0_12 V 4 (Proc.devRef .tc main_v65) = asCol (V (Proc.devRef .tc main_v55)) := by after_reads_simp
  have h2 : upto hostOps0_12 V 4 (Proc.devRef .tc main_v66) = asCol (V (Proc.devRef .tc main_v59)) := by after_reads_simp
  have h3 : upto hostOps0_12 V 4 (Proc.devRef .tc main_v67) = asCol (V (Proc.devRef .tc main_v63)) := by after_reads_simp
  rw [h0, h1, h2, h3]

theorem stB_v51 : stB V (Proc.devRef .tc main_v51) = clip 0x00000000#32 0x44800000#32
    (subf (cxR (V (Proc.devRef .tc main_arg0)) (regArg (V (Proc.devRef .tc main_arg2))))
      (pwR (V (Proc.devRef .tc main_arg0)) (regArg (V (Proc.devRef .tc main_arg2))))) := by
  unfold cxR pwR wR
  after_reads_simp
  simp only [TRef.ofBuf_toBuf]
  rfl
theorem stB_v55 : stB V (Proc.devRef .tc main_v55) = clip 0x00000000#32 0x44800000#32
    (subf (cyR (V (Proc.devRef .tc main_arg0)) (regArg (V (Proc.devRef .tc main_arg2))))
      (phR (V (Proc.devRef .tc main_arg0)) (regArg (V (Proc.devRef .tc main_arg2))))) := by
  unfold cyR phR hR
  after_reads_simp
  simp only [TRef.ofBuf_toBuf]
  rfl
theorem stB_v59 : stB V (Proc.devRef .tc main_v59) = clip 0x00000000#32 0x44800000#32
    (addf (cxR (V (Proc.devRef .tc main_arg0)) (regArg (V (Proc.devRef .tc main_arg2))))
      (pwR (V (Proc.devRef .tc main_arg0)) (regArg (V (Proc.devRef .tc main_arg2))))) := by
  unfold cxR pwR wR
  after_reads_simp
  simp only [TRef.ofBuf_toBuf]
  rfl
theorem stB_v63 : stB V (Proc.devRef .tc main_v63) = clip 0x00000000#32 0x44800000#32
    (addf (cyR (V (Proc.devRef .tc main_arg0)) (regArg (V (Proc.devRef .tc main_arg2))))
      (phR (V (Proc.devRef .tc main_arg0)) (regArg (V (Proc.devRef .tc main_arg2))))) := by
  unfold cyR phR hR
  after_reads_simp
  simp only [TRef.ofBuf_toBuf]
  rfl

/-- The repeated boxes before the selection. -/
theorem stA_v71 : stA V (Proc.devRef .tc main_v71)
    = repR (boxesR (V (Proc.devRef .tc main_arg0)) (regArg (V (Proc.devRef .tc main_arg2)))) := by
  refine (after_of_writes_sub hostOps0_13 _ hostOps0_13_writes (by decide +kernel)).trans ((r12_v71 (stB V)).trans ?_)
  rw [stB_v51, stB_v55, stB_v59, stB_v63]
  rfl

theorem r_values : after hostOps0_14 V (Proc.devRef .tc main_values) = topV (V (Proc.devRef .tc main_v81)) := by
  unfold topV
  after_reads_simp
theorem r_indices : after hostOps0_14 V (Proc.devRef .tc main_indices) = topI (V (Proc.devRef .tc main_v81)) := by
  unfold topI
  after_reads_simp
theorem r_v82 : after hostOps0_14 V (Proc.devRef .tc main_v82)
    = broadcastInDim S4x1000x1 ![0, 1] bcast_S4x1000_S4x1000x1_0_1 (topI (V (Proc.devRef .tc main_v81))) := by
  unfold topI
  after_reads_simp

theorem r_v83 : after hostOps0_15 V (Proc.devRef .tc main_v83)
    = takeRows (V (Proc.devRef .tc main_v71)) (V (Proc.devRef .tc main_v82)) := by
  unfold takeRows inRange wrap1
  after_reads_simp
  simp only [TRef.ofBuf_toBuf]
  rfl

theorem r_v84 : after hostOps0_16 V (Proc.devRef .tc main_v84)
    = takeCls (V (Proc.devRef .tc main_v77)) (V (Proc.devRef .tc main_indices)) := by
  unfold takeCls inRange wrap
  after_reads_simp
  simp only [TRef.ofBuf_toBuf]
  rfl

theorem r_iou : after hostOps0_17 V (Proc.devRef .tc main_v158_1)
    = iouR (shiftR (V (Proc.devRef .tc main_v83)) (V (Proc.devRef .tc main_v84))) := by
  unfold iouR interR areaR shiftR
  after_reads_simp
  rfl
theorem r_idx0 : after hostOps0_17 V (Proc.devRef .tc main_v158_0) = iotaInDim S1000 32 0 := by
  after_reads_simp
  rfl
theorem r_idx2 : after hostOps0_17 V (Proc.devRef .tc main_v158_2) = iotaInDim S1000 32 0 := by
  after_reads_simp
  rfl
theorem r_keep : after hostOps0_17 V (Proc.devRef .tc main_v158_4)
    = broadcastInDim S4x1000 ![] bcast_S_S4x1000 (constantI S_ 1 1#1) := by
  after_reads_simp
  rfl

end

end Cert.ReferenceIdeal.Run
-- ==== Proof.RI.Loop.lean ====
module

public import proofs.«01_k».proof.Proof.RI.Host
public import proofs.«01_k».proof.Proof.Gen.ReferenceIdeal.Run
public import Idealize.ShloMosaic.Lib.Pointwise
public import Idealize.ShloMosaic.Lib.WordCmp

/-! The reference's suppression loop: the flags after `k` trips, as a function of the overlaps. -/

@[expose] public section

set_option maxRecDepth 16384

noncomputable section

namespace Cert.ReferenceIdeal.Run

open Idealize.ShloMosaic Idealize.ShloMosaic.TcCoe Idealize.ShloMosaic.Tactic
open Idealize.ShloMosaic.StableHlo
open Cert.ReferenceIdeal Cert.ReferenceIdeal.Gen Cert.ReferenceIdeal.Value

variable {F : FTy → Type} [FloatOps F]

/-- Whether box `k` suppresses box `j` of image `b`: it overlaps it by more than half, and comes before it. -/
def supR (iou : FVec F S4x1000x1000 .f32) (k : Fin 1000) (b : Fin 4) (j : Fin 1000) : BitVec 1 :=
  IntOp.andi (FloatOps.cmpf .ogt (iou (ix3 b k j)) (FloatOps.ofBits .f32 0x3F000000#32)) (IntOp.cmpi .sgt (BitVec.ofNat 32 j.val) (BitVec.ofNat 32 k.val))

/-- The flags after one trip: a box is dropped when box `k` is kept and suppresses it. -/
def tripR (iou : FVec F S4x1000x1000 .f32) (k : Fin 1000) (K : IVec S4x1000 1) : IVec S4x1000 1 := fun y =>
  IntOp.andi (K y) (~~~ (IntOp.andi (supR iou k (y 0) (y 1)) (K (ix2 (y 0) k))))

/-- The flags after `k` trips. -/
def keepR (iou : FVec F S4x1000x1000 .f32) : ℕ → IVec S4x1000 1
  | 0 => fun _ => 1#1
  | k + 1 => if h : k < 1000 then tripR iou ⟨k, h⟩ (keepR iou k) else keepR iou k

theorem small_int (k : ℕ) (hk : k < 1000) : (BitVec.ofNat 32 k).toInt = k := by
  rw [BitVec.toInt_eq_toNat_cond, BitVec.toNat_ofNat]; split <;> omega

/-- A dynamic slice at row `k` reads row `k`. -/
theorem slice1 {α : Type} (x : S1000.Idx → α) (st : Fin 1 → Int) (h : S1000.Slices (fun _ => 0) S1) (k : Fin 1000) (e : st 0 = (k.val : Int)) :
    Host.dynamicSlice S1 x st h = fun _ => x (ix1 k) := by
  rw [WordCmp.dynamicSlice_eq_extract (α := α) (x := x) (start := st) (h := h) (k := ![k.val]) (hk := ⟨rfl, fun a => by fin_cases a; show k.val + 1 ≤ 1000; omega⟩)
    (e := fun a => by fin_cases a; exact e)]
  funext y
  idx_vars y
  pointwise
theorem slice2 {α : Type} (x : S4x1000.Idx → α) (st : Fin 2 → Int) (h : S4x1000.Slices (fun _ => 0) S4x1) (k : Fin 1000) (e0 : st 0 = 0)
    (e : st 1 = (k.val : Int)) : Host.dynamicSlice S4x1 x st h = fun y => x (ix2 (y 0) k) := by
  rw [WordCmp.dynamicSlice_eq_extract (α := α) (x := x) (start := st) (h := h) (k := ![0, k.val]) (hk := ⟨rfl, fun a => by
      fin_cases a
      · show 0 + 4 ≤ 4; omega
      · show k.val + 1 ≤ 1000; omega⟩) (e := fun a => by fin_cases a; exacts [e0, e])]
  funext y
  idx_vars y
  pointwise
theorem slice3 {α : Type} (x : S4x1000x1000.Idx → α) (st : Fin 3 → Int) (h : S4x1000x1000.Slices (fun _ => 0) S4x1x1000) (k : Fin 1000)
    (e0 : st 0 = 0) (e : st 1 = (k.val : Int)) (e2 : st 2 = 0) : Host.dynamicSlice S4x1x1000 x st h = fun y => x (ix3 (y 0) k (y 2)) := by
  rw [WordCmp.dynamicSlice_eq_extract (α := α) (x := x) (start := st) (h := h) (k := ![0, k.val, 0]) (hk := ⟨rfl, fun a => by
      fin_cases a
      · show 0 + 4 ≤ 4; omega
      · show k.val + 1 ≤ 1000; omega
      · show 0 + 1000 ≤ 1000; omega⟩) (e := fun a => by fin_cases a; exacts [e0, e, e2])]
  funext y
  idx_vars y
  pointwise

/-- The row number of a trip. -/
theorem row_of_trip (V : Valuation τ sig (Elt F)) (k : ℕ) (hk : k < 1000) (h0 : V (Proc.devRef .tc main_v158_0) = iotaInDim S1000 32 0)
    (h3 : V (Proc.devRef .tc main_v158_3) = fun _ => BitVec.ofNat 32 k) : res_main_while0b_v164 V = fun _ => BitVec.ofNat 32 k := by
  unfold res_main_while0b_v164
  rw [h0, h3, slice1 (k := ⟨k, hk⟩) (e := ?_)]
  · funext y
    pointwise
  · exact small_int k hk

/-- One trip's flags. -/
theorem flags_of_trip (V : Valuation τ sig (Elt F)) (k : ℕ) (hk : k < 1000) (h0 : V (Proc.devRef .tc main_v158_0) = iotaInDim S1000 32 0)
    (h2 : V (Proc.devRef .tc main_v158_2) = iotaInDim S1000 32 0) (h3 : V (Proc.devRef .tc main_v158_3) = fun _ => BitVec.ofNat 32 k) :
    step_main_v158_4 V = tripR (V (Proc.devRef .tc main_v158_1)) ⟨k, hk⟩ (V (Proc.devRef .tc main_v158_4)) := by
  have hs : ((BitVec.ofNat 32 k).slt 0#32) = false := by
    simp only [BitVec.slt, small_int k hk, BitVec.toInt_zero, decide_eq_false_iff_not]; omega
  have hw : (Scalar.select (BitVec.ofBool ((BitVec.ofNat 32 k).slt 0#32)) (IntOp.addi (BitVec.ofNat 32 k) 1000#32) (BitVec.ofNat 32 k)).toInt = k := by
    rw [hs]; exact small_int k hk
  unfold step_main_v158_4
  rw [row_of_trip V k hk h0 h3, h2]
  rw [slice3 (k := ⟨k, hk⟩) (e0 := rfl) (e := ?_) (e2 := rfl), slice2 (k := ⟨k, hk⟩) (e0 := rfl) (e := ?_)]
  rotate_left
  · exact hw
  · exact hw
  funext y
  idx_vars y
  unfold tripR supR
  rw [id_eq]
  pointwise

section
variable (m : (ℓ : Loc nD τ sig) → Buf (Elt F) ℓ)

/-- What every buffer holds before the first trip. -/
abbrev entry (c : Dev nD) : Valuation τ sig (Elt F) := entryContents preI m c

/-- The carried arrays no trip changes. -/
theorem atK_idx0 (c : Dev nD) : ∀ k, atK m k c (Proc.devRef .tc main_v158_0) = entry m c (Proc.devRef .tc main_v158_0)
  | 0 => rfl
  | k + 1 => (trip_agree (atK m k c) main_v158_0 (by decide)).trans ((STEP_main_v158_0 _).trans (atK_idx0 c k))
theorem atK_iou (c : Dev nD) : ∀ k, atK m k c (Proc.devRef .tc main_v158_1) = entry m c (Proc.devRef .tc main_v158_1)
  | 0 => rfl
  | k + 1 => (trip_agree (atK m k c) main_v158_1 (by decide)).trans ((STEP_main_v158_1 _).trans (atK_iou c k))
theorem atK_idx2 (c : Dev nD) : ∀ k, atK m k c (Proc.devRef .tc main_v158_2) = entry m c (Proc.devRef .tc main_v158_2)
  | 0 => rfl
  | k + 1 => (trip_agree (atK m k c) main_v158_2 (by decide)).trans ((STEP_main_v158_2 _).trans (atK_idx2 c k))

/-- The flags after `k` trips. -/
theorem atK_keep (c : Dev nD) (h0 : entry m c (Proc.devRef .tc main_v158_0) = iotaInDim S1000 32 0)
    (h2 : entry m c (Proc.devRef .tc main_v158_2) = iotaInDim S1000 32 0)
    (h4 : entry m c (Proc.devRef .tc main_v158_4) = fun _ => 1#1) :
    ∀ k, k ≤ 1000 → atK m k c (Proc.devRef .tc main_v158_4) = keepR (entry m c (Proc.devRef .tc main_v158_1)) k
  | 0, _ => h4
  | k + 1, hk => by
    have hk' : k < 1000 := hk
    refine (trip_agree (atK m k c) main_v158_4 (by decide)).trans ((STEP_main_v158_4 _).trans ?_)
    rw [flags_of_trip (atK m k c) k hk' ((atK_idx0 m c k).trans h0) ((atK_idx2 m c k).trans h2)
      ((atK_ctr m c k).trans (by funext _; simp [Scf.iv]))]
    rw [atK_iou, atK_keep c h0 h2 h4 k hk'.le]
    simp only [keepR, hk', dite_true]

end

end Cert.ReferenceIdeal.Run
-- ==== Proof.Val.Sup.lean ====
module

public import proofs.«01_k».proof.Proof.KI.Host
public import proofs.«01_k».proof.Proof.KI.Nms
public import proofs.«01_k».proof.Proof.RI.Loop
public import Idealize.ShloMosaic.Lib.Pipeline.ValueKit

/-! The suppression table of the kernel read entry by entry. -/

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run

variable {F : FTy → Type} [FloatOps F]

/-- Every stored chunk holding an entry holds there what its trip computed. -/
theorem pieces_allAt (tb : Vec F S1000x4x4 .f32) (v6 v9 v12 v15 v26 : FVec F S4x1000 .f32) (i : Fin 1000) (b : Fin 4) (j : Fin 1000)
    (k : Fin k1_t1_loop.trips) (r : Fin 125) (h : i.val = 125 * k.val + r.val) : ∀ n : ℕ,
    View.AllAt (supPieces tb v6 v9 v12 v15 v26 n) (ix3 i b j) (chunkOf tb v6 v9 v12 v15 v26 k (ix3 r b j))
  | 0 => View.allAt_nil _ _
  | n + 1 => by
    unfold supPieces
    split
    · rename_i hn
      refine View.allAt_cons_unit _ _ _ _ _ (fun x hx => ?_) (pieces_allAt tb v6 v9 v12 v15 v26 i b j k r h n)
      have h0 := hx 0
      have h1 := hx 1
      have h2 := hx 2
      rw [k1_off2_eq] at h0 h1 h2
      change S125x4x1000.Idx at x
      idx_vars x
      change i.val = 125 * n + x0.val at h0
      change b.val = 0 + x1.val at h1
      change j.val = 0 + x2.val at h2
      have e : n = k.val := by omega
      subst e
      obtain rfl : x0 = r := Fin.ext (by omega)
      obtain rfl : x1 = b := Fin.ext (by omega)
      obtain rfl : x2 = j := Fin.ext (by omega)
      rfl
    · exact pieces_allAt tb v6 v9 v12 v15 v26 i b j k r h n

/-- The table at an entry is what the trip of its row computed. -/
theorem sup_at (tb : Vec F S1000x4x4 .f32) (v6 v9 v12 v15 v26 : FVec F S4x1000 .f32) (i : Fin 1000) (b : Fin 4) (j : Fin 1000)
    (k : Fin k1_t1_loop.trips) (r : Fin 125) (h : i.val = 125 * k.val + r.val) :
    supOf tb v6 v9 v12 v15 v26 (ix3 i b j) = k1_pay6 v6 v9 v12 v15 v26 0#32 1#32 k (rowsOf tb k) (ix3 r b j) := by
  refine (View.canon_eq_of_allAt _ _ _ (supPieces_cover tb v6 v9 v12 v15 v26 _) (pieces_allAt tb v6 v9 v12 v15 v26 i b j k r h _)).trans ?_
  pointwise [k1_pay2]

/-- The row a trip loads. -/
theorem rows_at (tb : Vec F S1000x4x4 .f32) (i : Fin 1000) (b : Fin 4) (c : Fin 4)
    (k : Fin k1_t1_loop.trips) (r : Fin 125) (h : i.val = 125 * k.val + r.val) : rowsOf tb k (ix3 r b c) = tb (ix3 i b c) :=
  View.ld_unit_apply_of tb _ _ _ _ _ fun a => by
    refine Eq.trans ?_ (congrArg (· + ((ix3 r b c a).val : ℕ)) (congrFun (k1_off1_eq k) a)).symm
    fin_cases a
    · exact h
    · exact (Nat.zero_add _).symm
    · exact (Nat.zero_add _).symm

theorem num_1026 : Ideal.ofBits .f32 0x44804000#32 = ((1026 : ℝ) : EReal) := by
  simp [Ideal.ofBits, Ideal.ieee, -EReal.coe_mul]; norm_num
theorem num_1024 : Ideal.ofBits .f32 0x44800000#32 = ((1024 : ℝ) : EReal) := by
  simp [Ideal.ofBits, Ideal.ieee, -EReal.coe_mul]; norm_num
theorem num_2 : Ideal.ofBits .f32 0x40000000#32 = ((2 : ℝ) : EReal) := by
  simp [Ideal.ofBits, Ideal.ieee, -EReal.coe_mul]; norm_num
theorem num_half : Ideal.ofBits .f32 0x3F000000#32 = ((1 / 2 : ℝ) : EReal) := by
  simp [Ideal.ofBits, Ideal.ieee, -EReal.coe_mul]; norm_num
/-- The least union is positive. -/
theorem num_eps : ∃ e : ℝ, 0 < e ∧ Ideal.ofBits .f32 0x358637BD#32 = (e : EReal) := by
  refine ⟨8796093 * (2 ^ 43)⁻¹, by positivity, ?_⟩
  simp [Ideal.ofBits, Ideal.ieee, -EReal.coe_mul]
/-- The distance between the classes is the number the kernel writes. -/
theorem num_gap : max ((1024 : ℝ) : EReal) ((1024 : ℝ) : EReal) + ((2 : ℝ) : EReal) = ((1026 : ℝ) : EReal) := by
  rw [max_self, ← EReal.coe_add]; exact congrArg _ (by norm_num)

theorem coe_max' (x y : ℝ) : max (x : EReal) (y : EReal) = ((max x y : ℝ) : EReal) := (EReal.coe_strictMono.monotone.map_max).symm
theorem coe_min' (x y : ℝ) : min (x : EReal) (y : EReal) = ((min x y : ℝ) : EReal) := (EReal.coe_strictMono.monotone.map_min).symm

/-- Comparing with half the union is comparing the quotient with one half. -/
theorem half_lt (I U : ℝ) (hU : 0 < U) : ((1 / 2 : ℝ) : EReal) * (U : EReal) < (I : EReal) ↔ ((1 / 2 : ℝ) : EReal) < Ideal.div (I : EReal) (U : EReal) := by
  rw [Ideal.div_coe hU.ne', ← EReal.coe_mul, ← EReal.coe_mul, EReal.coe_lt_coe_iff, EReal.coe_lt_coe_iff, mul_one_div, lt_div_iff₀ hU]

/-- A flag widened to a number. -/
def one_of (X : BitVec 1) : EReal := if X = 1#1 then 1 else 0
theorem flag_num (X : BitVec 1) : (FloatOps.sitofp .f32 (BitVec.setWidth 32 X) : Ideal .f32) = one_of X := by
  unfold one_of
  change ((((BitVec.setWidth 32 X).toInt : ℝ) : EReal)) = _
  rcases (show X = 0#1 ∨ X = 1#1 by revert X; decide) with rfl | rfl <;> simp

/-- The row number the kernel compares lanes with. -/
theorem row_word (i k r : ℕ) (h : i = 125 * k + r) :
    IntOp.addi (Scalar.muli (Scf.iv 0#32 1#32 k) 125#32) (BitVec.ofNat 32 r) = BitVec.ofNat 32 i := by
  subst h
  show (0#32 + BitVec.ofNat 32 k * 1#32) * 125#32 + BitVec.ofNat 32 r = _
  apply BitVec.eq_of_toNat_eq
  simp [BitVec.toNat_add, BitVec.toNat_mul, Nat.mul_comm]

/-- The shapes of the row table. -/
theorem trans_ref : ReferenceIdeal.S4x1000x4.Transposes [1, 0, 2] S1000x4x4 := transposes_S4x1000x4_S1000x4x4_1_0_2

/-- One entry of the table: whether box `i` suppresses box `j`. -/
theorem cell (B : FVec Ideal ReferenceIdeal.S4x1000x4 .f32) (L : FVec Ideal ReferenceIdeal.S4x1000 .f32)
    (hB : ∀ y, ∃ r : ℝ, B y = (r : EReal)) (hL : ∀ y, ∃ r : ℝ, L y = (r : EReal)) (i : Fin 1000) (b : Fin 4) (j : Fin 1000) :
    nmsSup (ReferenceIdeal.Run.sel0 B) (ReferenceIdeal.Run.sel1 B) (ReferenceIdeal.Run.sel2 B) (ReferenceIdeal.Run.sel3 B) L
      (transpose S1000x4x4 [1, 0, 2] B trans_ref) (ix3 i b j)
    = one_of (ReferenceIdeal.Run.supR (ReferenceIdeal.Run.iouR (ReferenceIdeal.Run.shiftR B L)) i b j) := by
  have hk : i.val / 125 < k1_t1_loop.trips := by rw [trips1]; omega
  have h : i.val = 125 * (⟨i.val / 125, hk⟩ : Fin k1_t1_loop.trips).val + (⟨i.val % 125, Nat.mod_lt _ (by omega)⟩ : Fin 125).val :=
    (Nat.div_add_mod _ _).symm
  unfold nmsSup
  rw [sup_at (h := h)]
  generalize (⟨i.val / 125, hk⟩ : Fin k1_t1_loop.trips) = k at h ⊢
  generalize (⟨i.val % 125, Nat.mod_lt _ (by omega)⟩ : Fin 125) = r at h ⊢
  rw [← flag_num]
  unfold ReferenceIdeal.Run.supR
  obtain ⟨a0, ha0⟩ := hB (ix3 b i 0)
  obtain ⟨a1, ha1⟩ := hB (ix3 b i 1)
  obtain ⟨a2, ha2⟩ := hB (ix3 b i 2)
  obtain ⟨a3, ha3⟩ := hB (ix3 b i 3)
  obtain ⟨c0, hc0⟩ := hB (ix3 b j 0)
  obtain ⟨c1, hc1⟩ := hB (ix3 b j 1)
  obtain ⟨c2, hc2⟩ := hB (ix3 b j 2)
  obtain ⟨c3, hc3⟩ := hB (ix3 b j 3)
  obtain ⟨s, hs⟩ := hL (ix2 b i)
  obtain ⟨t, ht⟩ := hL (ix2 b j)
  obtain ⟨e, he, hE⟩ := num_eps
  generalize hT : k1_pay1 (F := Ideal) (k1_pay13 _) (k1_pay14 _) = T
  have hR := fun b c => rows_at (F := Ideal) T i b c k r h
  generalize rowsOf (F := Ideal) T k = R at hR ⊢
  pointwise [k1_pay6, k1_pay8, k1_pay9, k1_pay10, k1_pay11, k1_pay12, k1_pay7,
    ReferenceIdeal.Run.iouR, ReferenceIdeal.Run.interR, ReferenceIdeal.Run.areaR, ReferenceIdeal.Run.shiftR]
  rw [hR, hR, hR, hR, ← hT]
  pointwise [k1_pay1, k1_pay13, k1_pay14]
  rw [row_word i.val k.val r.val h]
  simp only [ha0, ha1, ha2, ha3, hc0, hc1, hc2, hc3, hs, ht, hE, num_1026, num_1024, num_2, num_half, num_gap]
  refine congrArg (fun x => FloatOps.sitofp .f32 (BitVec.setWidth 32 (IntOp.andi (BitVec.ofBool x) _))) (decide_eq_decide.mpr ?_)
  have hc2 : ((c2 : EReal) + t * (1026 : ℝ) - (c0 + t * (1026 : ℝ))) = c2 - c0 := by
    simp only [← EReal.coe_mul, ← EReal.coe_add, ← EReal.coe_sub]; exact congrArg _ (by ring)
  have hc3 : ((c3 : EReal) + t * (1026 : ℝ) - (c1 + t * (1026 : ℝ))) = c3 - c1 := by
    simp only [← EReal.coe_mul, ← EReal.coe_add, ← EReal.coe_sub]; exact congrArg _ (by ring)
  rw [hc2, hc3]
  rw [show (0 : EReal) = ((0 : ℝ) : EReal) from rfl]
  simp only [← EReal.coe_mul, ← EReal.coe_add, ← EReal.coe_sub, coe_max', coe_min']
  rw [EReal.coe_mul (1 / 2)]
  exact half_lt _ _ (lt_max_of_lt_right he)

end Cert.Val
-- ==== Proof.Val.Keep.lean ====
module

public import proofs.«01_k».proof.Proof.Val.Sup

/-! The two suppression loops keep the same boxes. -/

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run

/-- The row of the table a trip of the second loop loads. -/
theorem row_at (sup : Vec Ideal S1000x4x1000 .f32) (k : Fin k1_t2_loop.trips) (i : Fin 1000) (hi : i.val = k.val) (b : Fin 4) (j : Fin 1000) :
    View.ld (Val := Elt Ideal) sup (Rect.unit (s := S1000x4x1000) (k1_off3 k) S1x4x1000.size (k1_off3_inb k)) (ix3 0 b j) = sup (ix3 i b j) :=
  View.ld_unit_apply_of (Val := Elt Ideal) sup _ _ _ _ _ fun a => by
    refine Eq.trans ?_ (congrArg (· + ((ix3 (0 : Fin 1) b j a).val : ℕ)) (congrFun (k1_off3_eq k) a)).symm
    fin_cases a
    · exact hi
    · exact (Nat.zero_add _).symm
    · exact (Nat.zero_add _).symm

/-- The trip's number as a word. -/
theorem trip_word (k : ℕ) : Scf.iv 0#32 1#32 k = BitVec.ofNat 32 k := by simp [Scf.iv]
theorem one_hot_eq (k : ℕ) : one_of (IntOp.cmpi CmpIPredicate.eq (BitVec.ofNat 32 k) (BitVec.ofNat 32 k)) = 1 := by
  simp [one_of, IntOp.cmpi]
theorem one_hot_ne (x k : ℕ) (hx : x < 1000) (hk : k < 1000) (h : x ≠ k) :
    one_of (IntOp.cmpi CmpIPredicate.eq (BitVec.ofNat 32 x) (BitVec.ofNat 32 k)) = 0 := by
  have : BitVec.ofNat 32 x ≠ BitVec.ofNat 32 k := fun e => h (by
    have := congrArg BitVec.toNat e
    simp only [BitVec.toNat_ofNat] at this
    omega)
  show one_of (BitVec.ofBool (BitVec.ofNat 32 x == BitVec.ofNat 32 k)) = 0
  rw [beq_false_of_ne this]
  simp [one_of]

/-- One trip of the second loop. -/
theorem pay4_at (k : Fin k1_t2_loop.trips) (i : Fin 1000) (hi : i.val = k.val) (keep : FVec Ideal S4x1000 .f32) (row : Vec Ideal S1x4x1000 .f32)
    (b : Fin 4) (j : Fin 1000) :
    k1_pay4 k keep row (ix2 b j) = if 0 < row (ix3 0 b j) * keep (ix2 b i) then 0 else keep (ix2 b j) := by
  have hs : ∑ x : Fin 1000, keep (ix2 b x) * one_of (IntOp.cmpi CmpIPredicate.eq (BitVec.ofNat 32 x.val) (Scf.iv 0#32 1#32 k.val)) = keep (ix2 b i) := by
    rw [Finset.sum_eq_single i]
    · rw [show one_of (IntOp.cmpi CmpIPredicate.eq (BitVec.ofNat 32 i.val) (Scf.iv 0#32 1#32 k.val)) = 1 from by
        rw [trip_word, hi, one_hot_eq], mul_one]
    · intro x _ hx
      rw [show one_of (IntOp.cmpi CmpIPredicate.eq (BitVec.ofNat 32 x.val) (Scf.iv 0#32 1#32 k.val)) = 0 from by
        rw [trip_word]
        exact one_hot_ne _ _ x.isLt (by rw [← hi]; exact i.isLt) fun e => hx (Fin.ext (e.trans hi.symm)), mul_zero]
    · intro h
      exact absurd (Finset.mem_univ i) h
  pointwise [k1_pay4]
  simp only [flag_num]
  rw [hs]

/-- A flag of the table times a flag of the mask is positive exactly when both are set. -/
theorem both_set (X K J : BitVec 1) : (if 0 < one_of X * one_of K then 0 else one_of J : EReal) = one_of (IntOp.andi J (~~~ (IntOp.andi X K))) := by
  rcases (show X = 0#1 ∨ X = 1#1 by revert X; decide) with rfl | rfl <;>
    rcases (show K = 0#1 ∨ K = 1#1 by revert K; decide) with rfl | rfl <;>
    rcases (show J = 0#1 ∨ J = 1#1 by revert J; decide) with rfl | rfl <;> simp [one_of, IntOp.andi]

/-- The kernel's mask before trip `k` is the reference's, flag by flag. -/
theorem keep_eq (iou : FVec Ideal ReferenceIdeal.S4x1000x1000 .f32) (sup : Vec Ideal S1000x4x1000 .f32)
    (hs : ∀ i b j, sup (ix3 i b j) = one_of (ReferenceIdeal.Run.supR iou i b j)) :
    ∀ k : ℕ, k ≤ 1000 → ∀ (b : Fin 4) (j : Fin 1000), keepOf sup k (ix2 b j) = one_of (ReferenceIdeal.Run.keepR iou k (ix2 b j))
  | 0, _, b, j => by
    unfold keepOf ReferenceIdeal.Run.keepR
    pointwise [k1_pay3]
    simp [one_of]
  | k + 1, hk, b, j => by
    have hk' : k < 1000 := hk
    have hk2 : k < k1_t2_loop.trips := by rw [trips2]; exact hk'
    unfold keepOf ReferenceIdeal.Run.keepR
    rw [dif_pos hk2, dif_pos hk', pay4_at ⟨k, hk2⟩ ⟨k, hk'⟩ rfl, row_at sup ⟨k, hk2⟩ ⟨k, hk'⟩ rfl, hs,
      keep_eq iou sup hs k hk'.le b j, keep_eq iou sup hs k hk'.le b ⟨k, hk'⟩]
    unfold ReferenceIdeal.Run.tripR
    exact both_set _ _ _

end Cert.Val
-- ==== Proof.Val.Gather.lean ====
module

public import proofs.«01_k».proof.Proof.KI.Host
public import proofs.«01_k».proof.Proof.RI.Host
public import Idealize.ShloMosaic.Lib.Pointwise

/-! The three gathers of the two programs read at an index: the row of the same image that the position names. -/

@[expose] public section

set_option maxRecDepth 16384

noncomputable section

namespace Cert.Val

open Idealize.ShloMosaic Idealize.ShloMosaic.Tactic

variable {α : Type}

/-- The kernel's gather of boxes. -/
theorem gather_boxes (x : KernelIdeal.S4x5000x4.Idx → α) (j : IVec KernelIdeal.S4x1000x1 32) (p : Fin 4) (q : Fin 1000) (r : Fin 4) (n : Fin 5000)
    (h : (j (ix3 p q 0)).toInt = n.val) :
    Host.gather KernelIdeal.gather_S4x5000x4_S4x1000x1_S4x1000x4_2_1_0_0_1_2_114 x j (ix3 p q r) = x (ix3 p n r) := by
  unfold Host.gather
  refine congrArg x (funext fun a => Fin.ext ?_)
  match a with
  | ⟨0, _⟩ => show 0 + p.val + 0 = p.val; omega
  | ⟨1, _⟩ =>
    show min (j _).toInt.toNat 4999 + 0 + 0 = n.val
    refine Eq.trans (congrArg (fun i => min (j i).toInt.toNat 4999 + 0 + 0) (?_ : _ = ix3 p q 0)) (by rw [h]; omega)
    exact funext fun b => Fin.ext (match b with | ⟨0, _⟩ => rfl | ⟨1, _⟩ => rfl | ⟨2, _⟩ => rfl)
  | ⟨2, _⟩ => show 0 + 0 + r.val = r.val; omega

/-- The reference's gather of repeated boxes. -/
theorem gather_rep (x : ReferenceIdeal.S4x400000x4.Idx → α) (j : IVec ReferenceIdeal.S4x1000x1 32) (p : Fin 4) (q : Fin 1000) (r : Fin 4)
    (n : Fin 400000) (h : (j (ix3 p q 0)).toInt = n.val) :
    Host.gather ReferenceIdeal.gather_S4x400000x4_S4x1000x1_S4x1000x4_2_1_0_0_1_2_114 x j (ix3 p q r) = x (ix3 p n r) := by
  unfold Host.gather
  refine congrArg x (funext fun a => Fin.ext ?_)
  match a with
  | ⟨0, _⟩ => show 0 + p.val + 0 = p.val; omega
  | ⟨1, _⟩ =>
    show min (j _).toInt.toNat 399999 + 0 + 0 = n.val
    refine Eq.trans (congrArg (fun i => min (j i).toInt.toNat 399999 + 0 + 0) (?_ : _ = ix3 p q 0)) (by rw [h]; omega)
    exact funext fun b => Fin.ext (match b with | ⟨0, _⟩ => rfl | ⟨1, _⟩ => rfl | ⟨2, _⟩ => rfl)
  | ⟨2, _⟩ => show 0 + 0 + r.val = r.val; omega

/-- The reference's gather of repeated class numbers. -/
theorem gather_cls (x : ReferenceIdeal.S4x400000.Idx → α) (j : IVec ReferenceIdeal.S4x1000x1 32) (p : Fin 4) (q : Fin 1000)
    (n : Fin 400000) (h : (j (ix3 p q 0)).toInt = n.val) :
    Host.gather ReferenceIdeal.gather_S4x400000_S4x1000x1_S4x1000_n_1_0_0_1_2_11 x j (ix2 p q) = x (ix2 p n) := by
  unfold Host.gather
  refine congrArg x (funext fun a => Fin.ext ?_)
  match a with
  | ⟨0, _⟩ => show 0 + p.val + 0 = p.val; omega
  | ⟨1, _⟩ =>
    show min (j _).toInt.toNat 399999 + 0 + 0 = n.val
    refine Eq.trans (congrArg (fun i => min (j i).toInt.toNat 399999 + 0 + 0) (?_ : _ = ix3 p q 0)) (by rw [h]; omega)
    exact funext fun b => Fin.ext (match b with | ⟨0, _⟩ => rfl | ⟨1, _⟩ => rfl | ⟨2, _⟩ => rfl)

end Cert.Val
-- ==== Proof.Val.Pick.lean ====
module

public import proofs.«01_k».proof.Proof.KI.Host
public import proofs.«01_k».proof.Proof.RI.Host
public import proofs.«01_k».proof.Proof.Val.Gather
public import Idealize.ShloMosaic.Lib.Pointwise
public import Idealize.ShloMosaic.Lib.ReduceAll

/-! The selected positions lie among the 400000 scores, and both programs pick the same boxes and class numbers at
them. -/

@[expose] public section

set_option maxRecDepth 16384

noncomputable section

namespace Cert.Val

open Idealize.ShloMosaic Idealize.ShloMosaic.Tactic

variable {F : FTy → Type} [FloatOps F]

/-- Every entry of an array of words is a number below `N`. -/
def Below (N : ℕ) {s : Shape} (i : IVec s 32) : Prop := ∀ y, ∃ n, n < N ∧ i y = BitVec.ofNat 32 n

/-- Every selected position is below 400000. -/
theorem topI_below (x : FVec F KernelIdeal.S4x400000 .f32) : Below 400000 (KernelIdeal.Run.topI x) := by
  intro y
  unfold KernelIdeal.Run.topI Host.topK
  dsimp only
  unfold Host.sort2
  rw [dif_pos (by decide)]
  refine ⟨_, ?_, rfl⟩
  exact (_ : Fin 400000).isLt

/-- A number below 400000 as a word: its values, and that it is not negative. -/
theorem word_nat (n : ℕ) (h : n < 400000) : (BitVec.ofNat 32 n).toNat = n := by
  rw [BitVec.toNat_ofNat]; omega
theorem word_int (n : ℕ) (h : n < 400000) : (BitVec.ofNat 32 n).toInt = n := by
  rw [BitVec.toInt_eq_toNat_cond, word_nat n h]; split <;> omega
theorem word_msb (n : ℕ) (h : n < 400000) : (BitVec.ofNat 32 n).msb = false := by
  rw [BitVec.msb_eq_false_iff_two_mul_lt, word_nat n h]; omega

/-- Division and remainder by 80. -/
theorem word_div (n : ℕ) (h : n < 400000) : IntOp.divsi .host (BitVec.ofNat 32 n) 80#32 = BitVec.ofNat 32 (n / 80) := by
  have hc : ¬ IntOp.SDivCorner (BitVec.ofNat 32 n) 80#32 := by simp [IntOp.SDivCorner]
  unfold IntOp.divsi
  rw [if_neg hc, BitVec.sdiv_eq, word_msb n h, show (80#32).msb = false from by decide]
  apply BitVec.eq_of_toNat_eq
  show (BitVec.ofNat 32 n / 80#32).toNat = _
  rw [BitVec.toNat_udiv, word_nat n h, word_nat (n / 80) (by omega)]
  rfl
theorem word_rem (n : ℕ) (h : n < 400000) : IntOp.remsi .host (BitVec.ofNat 32 n) 80#32 = BitVec.ofNat 32 (n % 80) := by
  have hc : ¬ IntOp.SDivCorner (BitVec.ofNat 32 n) 80#32 := by simp [IntOp.SDivCorner]
  unfold IntOp.remsi
  rw [if_neg hc, BitVec.srem_eq, word_msb n h, show (80#32).msb = false from by decide]
  apply BitVec.eq_of_toNat_eq
  show (BitVec.ofNat 32 n % 80#32).toNat = _
  rw [BitVec.toNat_umod, word_nat n h, word_nat (n % 80) (by omega)]
  rfl

/-- A number below 400000 is at least zero, and at most any number it is at most, as signed words. -/
theorem word_slt (n : ℕ) (h : n < 400000) : IntOp.cmpi .slt (BitVec.ofNat 32 n) 0#32 = 0#1 := by
  have : ¬ (n : ℤ) < 0 := by omega
  simp only [IntOp.cmpi, BitVec.slt, word_int n h, BitVec.toInt_zero, this, decide_false]
  rfl
theorem word_sge (n : ℕ) (h : n < 400000) : IntOp.cmpi .sge (BitVec.ofNat 32 n) 0#32 = 1#1 := by
  simp [IntOp.cmpi, BitVec.sle, word_int n h]
theorem word_sle (n k : ℕ) (h : n ≤ k) (hk : k < 400000) : IntOp.cmpi .sle (BitVec.ofNat 32 n) (BitVec.ofNat 32 k) = 1#1 := by
  simp [IntOp.cmpi, BitVec.sle, word_int n (by omega), word_int k hk, h]

/-- The floor quotient of a position by 80. -/
theorem fdiv_at (i : IVec KernelIdeal.S4x1000 32) (p : Fin 4) (q : Fin 1000) (n : ℕ) (h : n < 400000) (e : i (ix2 p q) = BitVec.ofNat 32 n) :
    KernelIdeal.Run.fdiv i (ix2 p q) = BitVec.ofNat 32 (n / 80) := by
  unfold KernelIdeal.Run.fdiv
  pointwise [signi]
  rw [e, word_div n h, word_rem n h]
  by_cases h0 : n = 0
  · subst h0; rfl
  have h1 : ¬ (BitVec.ofNat 32 n = 0) := fun e0 => h0 (by have := congrArg BitVec.toNat e0; rwa [word_nat n h] at this)
  rw [if_neg h1, word_msb n h]
  show Scalar.select (IntOp.andi (0#1) _) _ _ = _
  unfold IntOp.andi
  rw [BitVec.zero_and]
  rfl

/-- The floor remainder of a position by 80. -/
theorem frem_at (i : IVec KernelIdeal.S4x1000 32) (p : Fin 4) (q : Fin 1000) (n : ℕ) (h : n < 400000) (e : i (ix2 p q) = BitVec.ofNat 32 n) :
    KernelIdeal.Run.frem i (ix2 p q) = BitVec.ofNat 32 (n % 80) := by
  unfold KernelIdeal.Run.frem
  pointwise
  have e80 : Scalar.select (IntOp.cmpi CmpIPredicate.eq 80#32 0#32) 1#32 80#32 = 80#32 := rfl
  rw [e80, e, word_rem n h, word_slt (n % 80) (by omega)]
  show Scalar.select (IntOp.andi (0#1) _) _ _ = _
  unfold IntOp.andi
  rw [BitVec.zero_and]
  rfl

/-- The kernel picks, at positions below 5000, the box of that number. -/
theorem takeK (b : FVec F KernelIdeal.S4x5000x4 .f32) (j : IVec KernelIdeal.S4x1000x1 32) (hj : Below 5000 j) (p : Fin 4) (q : Fin 1000) (r : Fin 4)
    (n : Fin 5000) (e : j (ix3 p q 0) = BitVec.ofNat 32 n.val) : KernelIdeal.Run.takeRows b j (ix3 p q r) = b (ix3 p n r) := by
  have hw : KernelIdeal.Run.wrap j = j := by
    funext y
    obtain ⟨k, hk, ek⟩ := hj y
    show Scalar.select (IntOp.cmpi .slt (j y) 0#32) _ _ = _
    rw [ek, word_slt k (by omega)]; rfl
  have hr : ∀ y, KernelIdeal.Run.inRange j y = 1#1 := fun y => by
    refine Host.reduce_andi_one _ _ _ _ _ rfl fun i => ?_
    obtain ⟨k, hk, ek⟩ := hj i
    show IntOp.andi (IntOp.cmpi .sge (j i) 0#32) (IntOp.cmpi .sle (j i) (BitVec.ofNat 32 4999)) = 1#1
    rw [ek, word_sge k (by omega), word_sle k 4999 (by omega) (by omega)]; rfl
  unfold KernelIdeal.Run.takeRows
  rw [hw]
  show Scalar.select (KernelIdeal.Run.inRange j _) _ _ = _
  rw [hr]
  exact gather_boxes b j p q r n (by rw [e, word_int _ (by omega)])

/-- The reference wraps no position below 400000, and finds it in range. -/
theorem wrap1_below (j : IVec ReferenceIdeal.S4x1000x1 32) (hj : Below 400000 j) : ReferenceIdeal.Run.wrap1 j = j := by
  funext y
  obtain ⟨k, hk, ek⟩ := hj y
  show Scalar.select (IntOp.cmpi .slt (j y) 0#32) _ _ = _
  rw [ek, word_slt k hk]; rfl
theorem inRange_below (j : IVec ReferenceIdeal.S4x1000x1 32) (hj : Below 400000 j) (y : ReferenceIdeal.S4x1000.Idx) :
    ReferenceIdeal.Run.inRange j y = 1#1 := by
  refine Host.reduce_andi_one _ _ _ _ _ rfl fun i => ?_
  obtain ⟨k, hk, ek⟩ := hj i
  show IntOp.andi (IntOp.cmpi .sge (j i) 0#32) (IntOp.cmpi .sle (j i) (BitVec.ofNat 32 399999)) = 1#1
  rw [ek, word_sge k hk, word_sle k 399999 (by omega) (by omega)]; rfl

/-- The reference picks, at positions below 400000, the repeated box of that number. -/
theorem takeR (b : FVec F ReferenceIdeal.S4x400000x4 .f32) (j : IVec ReferenceIdeal.S4x1000x1 32) (hj : Below 400000 j) (p : Fin 4) (q : Fin 1000)
    (r : Fin 4) (n : Fin 400000) (e : j (ix3 p q 0) = BitVec.ofNat 32 n.val) : ReferenceIdeal.Run.takeRows b j (ix3 p q r) = b (ix3 p n r) := by
  unfold ReferenceIdeal.Run.takeRows
  rw [wrap1_below j hj]
  show Scalar.select (ReferenceIdeal.Run.inRange j _) _ _ = _
  rw [inRange_below j hj]
  exact gather_rep b j p q r n (by rw [e, word_int _ n.isLt])

/-- The reference picks, at positions below 400000, the class number of that position. -/
theorem takeC (b : FVec F ReferenceIdeal.S4x400000 .f32) (i : IVec ReferenceIdeal.S4x1000 32) (hi : Below 400000 i) (p : Fin 4) (q : Fin 1000)
    (n : Fin 400000) (e : i (ix2 p q) = BitVec.ofNat 32 n.val) : ReferenceIdeal.Run.takeCls b i (ix2 p q) = b (ix2 p n) := by
  have hw : ∀ p q, ReferenceIdeal.Run.wrap i (ix3 p q 0) = i (ix2 p q) := fun p q => by
    unfold ReferenceIdeal.Run.wrap
    obtain ⟨k, hk, ek⟩ := hi (ix2 p q)
    pointwise
    rw [ek, word_slt k hk]; rfl
  have hb : Below 400000 (ReferenceIdeal.Run.wrap i) := fun y => by
    idx_vars y
    obtain rfl : y2 = 0 := Subsingleton.elim _ _
    obtain ⟨k, hk, ek⟩ := hi (ix2 y0 y1)
    exact ⟨k, hk, (hw y0 y1).trans ek⟩
  unfold ReferenceIdeal.Run.takeCls
  show Scalar.select (ReferenceIdeal.Run.inRange (ReferenceIdeal.Run.wrap i) _) _ _ = _
  rw [inRange_below _ hb]
  exact gather_cls b _ p q n (by rw [hw, e, word_int _ n.isLt])

/-- Both programs select the same boxes. -/
theorem boxes_eq (b : FVec F KernelIdeal.S4x5000x4 .f32) (i : IVec KernelIdeal.S4x1000 32) (hi : Below 400000 i) :
    KernelIdeal.Run.boxesOf b i = ReferenceIdeal.Run.takeRows (ReferenceIdeal.Run.repR b)
      (broadcastInDim ReferenceIdeal.S4x1000x1 ![0, 1] ReferenceIdeal.Gen.bcast_S4x1000_S4x1000x1_0_1 i) := by
  have hd : Below 5000 (broadcastInDim KernelIdeal.S4x1000x1 ![0, 1] KernelIdeal.Gen.bcast_S4x1000_S4x1000x1_0_1 (KernelIdeal.Run.fdiv i)) := fun y => by
    idx_vars y
    obtain ⟨k, hk, ek⟩ := hi (ix2 y0 y1)
    refine ⟨k / 80, by omega, ?_⟩
    pointwise
    exact fdiv_at i y0 y1 k hk ek
  have hr : Below 400000 (broadcastInDim ReferenceIdeal.S4x1000x1 ![0, 1] ReferenceIdeal.Gen.bcast_S4x1000_S4x1000x1_0_1 i) := fun y => hi _
  funext y
  idx_vars y
  obtain ⟨k, hk, ek⟩ := hi (ix2 y0 y1)
  unfold KernelIdeal.Run.boxesOf
  rw [takeK b _ hd y0 y1 y2 ⟨k / 80, by omega⟩ (by pointwise; exact fdiv_at i y0 y1 k hk ek),
    takeR _ _ hr y0 y1 y2 ⟨k, hk⟩ (by pointwise; exact ek)]
  unfold ReferenceIdeal.Run.repR
  pointwise

/-- Both programs give the selected boxes the same class numbers. -/
theorem cls_eq (i : IVec KernelIdeal.S4x1000 32) (hi : Below 400000 i) :
    KernelIdeal.Run.clsOf (F := Ideal) i = ReferenceIdeal.Run.takeCls ReferenceIdeal.Run.clsR i := by
  funext y
  idx_vars y
  obtain ⟨k, hk, ek⟩ := hi (ix2 y0 y1)
  rw [takeC _ i hi y0 y1 ⟨k, hk⟩ ek]
  unfold KernelIdeal.Run.clsOf ReferenceIdeal.Run.clsR
  pointwise
  rw [frem_at i y0 y1 k hk ek]
  have ea : IntOp.addi (BitVec.ofNat 32 (k % 80)) 1#32 = BitVec.ofNat 32 (k % 80 + 1) := by
    unfold IntOp.addi; rw [BitVec.ofNat_add]
  rw [ea]
  show (((BitVec.ofNat 32 (k % 80 + 1)).toInt : ℝ) : EReal) = (((BitVec.ofNat 32 (k % 80)).toInt : ℝ) : EReal) + 1
  rw [word_int _ (by omega), word_int _ (by omega)]
  push_cast
  rfl

end Cert.Val
-- ==== Proof.Val.Arrays1.lean ====
module

public import proofs.«01_k».proof.Proof.KI.Host
public import Idealize.ShloMosaic.Lib.Pipeline.ValueKit

/-! The array the suppression region leaves, from the buffers it is entered with. -/

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run

variable {F : FTy → Type} [FloatOps F]
variable (V : (c : Dev nD) → (b : Ref sig .tc) → Buf (Elt F) ((c : Thread nD τ).loc b))

/-- A whole-array block starts at the array's origin. -/
theorem origin (k n : ℕ) : 0 * n + k = k := by omega

/-- Each input block of the suppression region is its whole array. -/
theorem iblk1_0 (c : Dev nD) (t : Fin cfg1.N) : iblk1 V c 0 t = V c main_call0_v15 := by
  funext y
  blk_simp [iblk1]
  exact congrArg (V c main_call0_v15) (funext fun a => Fin.ext (by blk_simp; exact origin _ _))
theorem iblk1_1 (c : Dev nD) (t : Fin cfg1.N) : iblk1 V c 1 t = V c main_call0_v17 := by
  funext y
  blk_simp [iblk1]
  exact congrArg (V c main_call0_v17) (funext fun a => Fin.ext (by blk_simp; exact origin _ _))
theorem iblk1_2 (c : Dev nD) (t : Fin cfg1.N) : iblk1 V c 2 t = V c main_call0_v19 := by
  funext y
  blk_simp [iblk1]
  exact congrArg (V c main_call0_v19) (funext fun a => Fin.ext (by blk_simp; exact origin _ _))
theorem iblk1_3 (c : Dev nD) (t : Fin cfg1.N) : iblk1 V c 3 t = V c main_call0_v21 := by
  funext y
  blk_simp [iblk1]
  exact congrArg (V c main_call0_v21) (funext fun a => Fin.ext (by blk_simp; exact origin _ _))
theorem iblk1_4 (c : Dev nD) (t : Fin cfg1.N) : iblk1 V c 4 t = V c main_call0_v12 := by
  funext y
  blk_simp [iblk1]
  exact congrArg (V c main_call0_v12) (funext fun a => Fin.ext (by blk_simp; exact origin _ _))
theorem iblk1_5 (c : Dev nD) (t : Fin cfg1.N) : iblk1 V c 5 t = V c main_call0_v13 := by
  funext y
  blk_simp [iblk1]
  exact congrArg (V c main_call0_v13) (funext fun a => Fin.ext (by blk_simp; exact origin _ _))
theorem iblk1_6 (c : Dev nD) (t : Fin cfg1.N) : iblk1 V c 6 t = V c main_call0_values := by
  funext y
  blk_simp [iblk1]
  exact congrArg (V c main_call0_values) (funext fun a => Fin.ext (by blk_simp; exact origin _ _))

/-- The scores the suppression region leaves. -/
theorem arr_nms (c : Dev nD) : (dat1 V c).arrAt 7 cfg1.N = nmsOut (F := F) (V c main_call0_v15) (V c main_call0_v17)
    (V c main_call0_v19) (V c main_call0_v21) (V c main_call0_v12) (V c main_call0_v13) (V c main_call0_values) := by
  refine (dat1 V c).arrAt_eq_of_covers 7 _ (by decide +kernel) fun t hf y => ?_
  blk_simp
  rw [after1_7]
  unfold outsAt1
  rw [iblk1_0, iblk1_1, iblk1_2, iblk1_3, iblk1_4, iblk1_5, iblk1_6]
  exact congrArg _ (funext fun a => Fin.ext (by blk_simp; exact (origin _ _).symm))

end Cert.Val
-- ==== Proof.Val.Decode.lean ====
module

public import proofs.«01_k».proof.Proof.KI.Region0
public import proofs.«01_k».proof.Proof.RI.Host
public import Idealize.ShloMosaic.Lib.Pointwise

/-! What the decoding body leaves in a block is that block of the reference's boxes and scores. -/

@[expose] public section

set_option maxRecDepth 16384

noncomputable section

namespace Cert.Val

open Idealize.ShloMosaic Idealize.ShloMosaic.Tactic
open Cert.KernelIdeal Cert.KernelIdeal.Gen Cert.KernelIdeal.Run

/-- A whole box block read is the block. -/
theorem ld_box (x : FVec Ideal S1x5000x4 .f32) : View.ld (Val := Elt Ideal) (e' := .f32) x r0_1 = x :=
  View.ld_unit_zero (Val := Elt Ideal) (e := .f32) (S := S1x5000x4) (off := ![0, 0, 0]) (by decide +kernel) _ _

/-- The box block at an entry is the reference's decoded box. -/
theorem out_box (x0 x2 : FVec Ideal S1x5000x4 .f32) (x1 : FVec Ideal S1x5000x80 .f32) (r d : FVec Ideal S4x5000x4 .f32) (b : Fin 4)
    (h0 : ∀ n c, x0 (ix3 0 n c) = r (ix3 b n c)) (h2 : ∀ n c, x2 (ix3 0 n c) = d (ix3 b n c)) (n : Fin 5000) (c : Fin 4) :
    out0_3 (F := Ideal) x0 x1 x2 (ix3 0 n c) = ReferenceIdeal.Run.boxesR r d (ix3 b n c) := by
  unfold out0_3
  rw [View.canon_unit_zero (by decide +kernel)]
  unfold ReferenceIdeal.Run.boxesR
  have e0 : View.ld (Val := Elt Ideal) (e' := .f32) x0 r0_1 = x0 := ld_box _
  have e2 : View.ld (Val := Elt Ideal) (e' := .f32) x2 r0_1 = x2 := ld_box _
  unfold k0_pay20 k0_pay21 k0_pay22 k0_pay23 k0_pay24 k0_pay25 k0_pay26 k0_pay27 k0_pay28
  rw [e0, e2]
  fin_cases c
  all_goals
    pointwise [k0_pay1, k0_pay3, k0_pay4, k0_pay5, k0_pay6, k0_pay7, k0_pay8, k0_pay9, k0_pay10, k0_pay11, k0_pay12, k0_pay13, k0_pay14,
      k0_pay15, k0_pay16, k0_pay17, k0_pay18, k0_pay19, ReferenceIdeal.Run.cxR, ReferenceIdeal.Run.cyR, ReferenceIdeal.Run.wR,
      ReferenceIdeal.Run.hR, ReferenceIdeal.Run.pwR, ReferenceIdeal.Run.phR, h0, h2]
  all_goals trace_state

/-- The score block at an entry is the reference's thresholded score. -/
theorem out_score (x0 x2 : FVec Ideal S1x5000x4 .f32) (x1 : FVec Ideal S1x5000x80 .f32) (s : FVec Ideal S4x5000x80 .f32) (b : Fin 4)
    (h1 : ∀ n c, x1 (ix3 0 n c) = s (ix3 b n c)) (n : Fin 5000) (c : Fin 80) :
    out0_4 (F := Ideal) x0 x1 x2 (ix3 0 n c) = ReferenceIdeal.Run.scoR s (ix2 b ⟨n.val * 80 + c.val, by omega⟩) := by
  unfold out0_4
  rw [View.canon_unit_zero (by decide +kernel)]
  unfold ReferenceIdeal.Run.scoR ReferenceIdeal.Run.sigR
  pointwise [k0_pay2]
  rw [h1]
  rfl

end Cert.Val
-- ==== Proof.Val.Arrays.lean ====
module

public import proofs.«01_k».proof.Proof.KI.Host
public import proofs.«01_k».proof.Proof.Val.Decode
public import Idealize.ShloMosaic.Lib.Pipeline.ValueKit

/-! The two arrays the decoding region leaves: the reference's boxes and its thresholded scores. -/

@[expose] public section

set_option maxRecDepth 16384

noncomputable section

namespace Cert.Val

open Idealize.ShloMosaic Idealize.ShloMosaic.TcCoe Idealize.ShloMosaic.Tactic
open Cert.KernelIdeal Cert.KernelIdeal.Gen Cert.KernelIdeal.Run

variable (V : (c : Dev nD) → (b : Ref sig .tc) → Buf (Elt Ideal) ((c : Thread nD τ).loc b))

theorem index0 : ∀ t : Fin cfg0.N, win0_0.index t = ![t.val, 0, 0] := by decide +kernel
theorem index1 : ∀ t : Fin cfg0.N, win0_1.index t = ![t.val, 0, 0] := by decide +kernel
theorem index2 : ∀ t : Fin cfg0.N, win0_2.index t = ![t.val, 0, 0] := by decide +kernel
theorem index3 : ∀ t : Fin cfg0.N, win0_3.index t = ![t.val, 0, 0] := by decide +kernel
theorem index4 : ∀ t : Fin cfg0.N, win0_4.index t = ![t.val, 0, 0] := by decide +kernel

/-- Block `t` of each input window is image `t` of its array. -/
theorem blk0 (c : Dev nD) (t : Fin cfg0.N) (n : Fin 5000) (k : Fin 4) :
    iblk0 V c 0 t (ix3 0 n k) = V c main_arg0 (ix3 t n k) := by
  blk_simp [iblk0]
  refine congrArg (V c main_arg0) (funext fun a => Fin.ext ?_)
  match a with
  | ⟨0, _⟩ => blk_simp [index0]; rfl
  | ⟨1, _⟩ => blk_simp [index0]
  | ⟨2, _⟩ => blk_simp [index0]
theorem blk1 (c : Dev nD) (t : Fin cfg0.N) (n : Fin 5000) (k : Fin 80) :
    iblk0 V c 1 t (ix3 0 n k) = V c main_call0_v1 (ix3 t n k) := by
  blk_simp [iblk0]
  refine congrArg (V c main_call0_v1) (funext fun a => Fin.ext ?_)
  match a with
  | ⟨0, _⟩ => blk_simp [index1]; rfl
  | ⟨1, _⟩ => blk_simp [index1]
  | ⟨2, _⟩ => blk_simp [index1]
theorem blk2 (c : Dev nD) (t : Fin cfg0.N) (n : Fin 5000) (k : Fin 4) :
    iblk0 V c 2 t (ix3 0 n k) = V c main_call0_v3 (ix3 t n k) := by
  blk_simp [iblk0]
  refine congrArg (V c main_call0_v3) (funext fun a => Fin.ext ?_)
  match a with
  | ⟨0, _⟩ => blk_simp [index2]; rfl
  | ⟨1, _⟩ => blk_simp [index2]
  | ⟨2, _⟩ => blk_simp [index2]

/-- Where block `t` of each output window lies in its array. -/
theorem emb3 (t : Fin cfg0.N) (n : Fin 5000) (k : Fin 4) : (win0_3.blk t).view.emb (ix3 0 n k) = ix3 t n k := by
  refine funext fun a => Fin.ext ?_
  match a with
  | ⟨0, _⟩ => blk_simp [index3]; rfl
  | ⟨1, _⟩ => blk_simp [index3]
  | ⟨2, _⟩ => blk_simp [index3]
theorem emb4 (t : Fin cfg0.N) (n : Fin 5000) (k : Fin 80) : (win0_4.blk t).view.emb (ix3 0 n k) = ix3 t n k := by
  refine funext fun a => Fin.ext ?_
  match a with
  | ⟨0, _⟩ => blk_simp [index4]; rfl
  | ⟨1, _⟩ => blk_simp [index4]
  | ⟨2, _⟩ => blk_simp [index4]

/-- The box array after the decoding region. -/
theorem arr_box (c : Dev nD) : (dat0 V c).arrAt 3 cfg0.N
    = ReferenceIdeal.Run.boxesR (F := Ideal) (V c main_arg0) (V c main_call0_v3) := by
  refine (dat0 V c).arrAt_eq_of_covers 3 _ (by decide +kernel) fun t hf y => ?_
  blk_simp
  rw [after0_3]
  change S1x5000x4.Idx at y
  idx_vars y
  obtain rfl : y0 = 0 := Subsingleton.elim _ _
  refine (out_box _ _ _ (V c main_arg0) (V c main_call0_v3) t (blk0 V c t) (blk2 V c t) y1 y2).trans ?_
  exact congrArg _ (emb3 t y1 y2).symm

/-- The reference's thresholded scores, box by class. -/
def scoCell (s : FVec Ideal S4x5000x80 .f32) : FVec Ideal S4x5000x80 .f32 := fun y =>
  ReferenceIdeal.Run.scoR s (ix2 (y 0) ⟨(y 1).val * 80 + (y 2).val, by idx_bounds y; omega⟩)

theorem scoCell_at (s : FVec Ideal S4x5000x80 .f32) (b : Fin 4) (n : Fin 5000) (k : Fin 80) :
    ReferenceIdeal.Run.scoR s (ix2 b ⟨n.val * 80 + k.val, by omega⟩) = scoCell s (ix3 b n k) := rfl

/-- Flattened, they are the reference's scores. -/
theorem scoCell_flat (s : FVec Ideal S4x5000x80 .f32) :
    shapeCast S4x400000 (scoCell s) shapeCasts_S4x5000x80_S4x400000 = ReferenceIdeal.Run.scoR s := by
  funext y
  idx_vars y
  unfold scoCell
  pointwise
  refine congrArg (fun k => ReferenceIdeal.Run.scoR s (ix2 y0 k)) (Fin.ext ?_)
  show y1.val / 80 * 80 + y1.val % 80 = y1.val
  omega

/-- The score array after the decoding region. -/
theorem arr_score (c : Dev nD) : (dat0 V c).arrAt 4 cfg0.N = scoCell (V c main_call0_v1) := by
  refine (dat0 V c).arrAt_eq_of_covers 4 _ (by decide +kernel) fun t hf y => ?_
  blk_simp
  rw [after0_4]
  change S1x5000x80.Idx at y
  idx_vars y
  obtain rfl : y0 = 0 := Subsingleton.elim _ _
  refine ((out_score _ _ _ (V c main_call0_v1) t (blk1 V c t) y1 y2).trans (scoCell_at _ t y1 y2)).trans ?_
  exact congrArg _ (emb4 t y1 y2).symm

variable (m : (ℓ : Loc nD τ sig) → Buf (Elt Ideal) ℓ) (ρ : Dev nD → PrngReg)

/-- The boxes and the scores the second stretch of host operations reads. -/
theorem W2_box (c : Dev nD) : W2 m ρ c (Proc.devRef .tc main_call0_v4_0)
    = ReferenceIdeal.Run.boxesR (F := Ideal) (m ((c : Thread nD τ).loc main_arg0))
        (ReferenceIdeal.Run.regArg (m ((c : Thread nD τ).loc main_arg2))) := by
  refine (W2_arr m ρ c 3).trans ((arr_box (V1 m ρ) c).trans ?_)
  have e0 : V1 m ρ c main_arg0 = m ((c : Thread nD τ).loc main_arg0) := W1_args m ρ c main_arg0 (by decide)
  have e3 : V1 m ρ c main_call0_v3 = ReferenceIdeal.Run.regArg (F := Ideal) (m ((c : Thread nD τ).loc main_arg2)) := h0_v3 (W0 m ρ c)
  rw [e0, e3]
theorem W2_score (c : Dev nD) : shapeCast S4x400000 (W2 m ρ c (Proc.devRef .tc main_call0_v4_1)) shapeCasts_S4x5000x80_S4x400000
    = ReferenceIdeal.Run.scoR (F := Ideal) (ReferenceIdeal.Run.clsArg (m ((c : Thread nD τ).loc main_arg1))) := by
  have e1 : V1 m ρ c main_call0_v1 = ReferenceIdeal.Run.clsArg (F := Ideal) (m ((c : Thread nD τ).loc main_arg1)) := h0_v1 (W0 m ρ c)
  have h : W2 m ρ c (Proc.devRef .tc main_call0_v4_1) = scoCell (V1 m ρ c main_call0_v1) :=
    (W2_arr m ρ c 4).trans (arr_score (V1 m ρ) c)
  rw [h, scoCell_flat, e1]

/-- The boxes the suppression reads, and the class numbers. -/
theorem W3_v8 (c : Dev nD) : W3 m ρ c (Proc.devRef .tc main_call0_v8) = boxesOf (ReferenceIdeal.Run.boxesR (F := Ideal)
      (m ((c : Thread nD τ).loc main_arg0)) (ReferenceIdeal.Run.regArg (m ((c : Thread nD τ).loc main_arg2))))
    (topI (ReferenceIdeal.Run.scoR (F := Ideal) (ReferenceIdeal.Run.clsArg (m ((c : Thread nD τ).loc main_arg1))))) := by
  refine (h1_v8 (W2 m ρ c)).trans ?_
  rw [W2_score, W2_box]
theorem W3_v12 (c : Dev nD) : W3 m ρ c (Proc.devRef .tc main_call0_v12) = clsOf (F := Ideal)
    (topI (ReferenceIdeal.Run.scoR (F := Ideal) (ReferenceIdeal.Run.clsArg (m ((c : Thread nD τ).loc main_arg1))))) := by
  refine (h1_v12 (W2 m ρ c)).trans ?_
  rw [W2_score]
theorem W3_values (c : Dev nD) : W3 m ρ c (Proc.devRef .tc main_call0_values)
    = topV (ReferenceIdeal.Run.scoR (F := Ideal) (ReferenceIdeal.Run.clsArg (m ((c : Thread nD τ).loc main_arg1)))) := by
  refine (h1_values (W2 m ρ c)).trans ?_
  rw [W2_score]

end Cert.Val
-- ==== Proof.RI.Final.lean ====
module

public import proofs.«01_k».proof.Proof.RI.Loop

/-! The reference's result as a function of its arguments. -/

@[expose] public section

set_option maxRecDepth 16384

noncomputable section

namespace Cert.ReferenceIdeal.Run

open Idealize.ShloMosaic Idealize.ShloMosaic.TcCoe Idealize.ShloMosaic.Tactic
open Idealize.ShloMosaic.StableHlo
open Cert.ReferenceIdeal Cert.ReferenceIdeal.Gen Cert.ReferenceIdeal.Value

variable {F : FTy → Type} [FloatOps F]

/-- Boxes, scores and classes side by side. -/
def joinR (b : FVec F S4x1000x4 .f32) (s l : FVec F S4x1000 .f32) : FVec F S4x1000x6 .f32 :=
  concatenate S4x1000x6 2 [⟨S4x1000x4, b⟩, ⟨S4x1000x1, broadcastInDim S4x1000x1 ![0, 1] bcast_S4x1000_S4x1000x1_0_1 s⟩,
    ⟨S4x1000x1, broadcastInDim S4x1000x1 ![0, 1] bcast_S4x1000_S4x1000x1_0_1 l⟩] concatenates_S4x1000x4_S4x1000x1_S4x1000x1_S4x1000x6_d2

theorem r_v163 (V : Valuation τ sig (Elt F)) : after hostOps0_18 V (Proc.devRef .tc main_v163)
    = joinR (V (Proc.devRef .tc main_v83)) (mulf (V (Proc.devRef .tc main_values)) (uitofp .f32 (V (Proc.devRef .tc main_v158_4))))
        (V (Proc.devRef .tc main_v84)) := by
  unfold joinR
  after_reads_simp
  rfl

/-- The selection's buffers that the result still reads after the loop. -/
abbrev selRefs : List (Ref sig .tc) := [main_values, main_v83, main_v84]

theorem outside_sel {W : List (Ref sig .tc)} (h : ∀ r ∈ selRefs, r ∉ W) {r : Ref sig .tc} (hr : r ∈ selRefs) : r ∉ W := h r hr

/-- The loop body does not write them. -/
theorem body_keep_sel {r : Ref sig .tc} (hr : r ∈ selRefs) :
    ∀ ops ∈ (bodyI : List (List (HloOp τ sig (Elt F)))), ∀ V : Valuation τ sig (Elt F), after ops V (Proc.devRef .tc r) = V (Proc.devRef .tc r) := by
  simp only [bodyI, List.forall_mem_cons]
  exact ⟨fun V => after_of_writes_sub while0Ops0 V while0Ops0_writes (outside_sel (by decide +kernel) hr), fun V => after_of_writes_sub while0Ops0_1 V while0Ops0_1_writes (outside_sel (by decide +kernel) hr), fun V => after_of_writes_sub while0Ops0_2 V while0Ops0_2_writes (outside_sel (by decide +kernel) hr), fun V => after_of_writes_sub while0Ops0_3 V while0Ops0_3_writes (outside_sel (by decide +kernel) hr), fun _ h => absurd h List.not_mem_nil⟩

section
variable (m : (ℓ : Loc nD τ sig) → Buf (Elt F) ℓ)

theorem atK_sel (c : Dev nD) {r : Ref sig .tc} (hr : r ∈ selRefs) : ∀ k, atK m k c (Proc.devRef .tc r) = entry m c (Proc.devRef .tc r)
  | 0 => rfl
  | k + 1 => (afterL_keep _ _ (body_keep_sel hr) _).trans
      ((after_of_writes_sub condOps _ condOps_writes (outside_sel (by decide +kernel) hr)).trans (atK_sel c hr k))

/-- What every buffer holds after the selection of the largest scores. -/
abbrev stC (c : Dev nD) : Valuation τ sig (Elt F) := after hostOps0_14 (stA (launchContents m c))

theorem entry_eq (c : Dev nD) : entry m c = after hostOps0_17 (after hostOps0_16 (after hostOps0_15 (stC m c))) := rfl

/-- The scores, positions, boxes and classes selected. -/
abbrev scoreOf (c : Dev nD) : FVec F S4x400000 .f32 := scoR (clsArg (launchContents m c (Proc.devRef .tc main_arg1)))
abbrev boxOf (c : Dev nD) : FVec F S4x1000x4 .f32 :=
  takeRows (repR (boxesR (launchContents m c (Proc.devRef .tc main_arg0)) (regArg (launchContents m c (Proc.devRef .tc main_arg2)))))
    (broadcastInDim S4x1000x1 ![0, 1] bcast_S4x1000_S4x1000x1_0_1 (topI (scoreOf m c)))
abbrev classOf (c : Dev nD) : FVec F S4x1000 .f32 := takeCls clsR (topI (scoreOf m c))

theorem stD_v83 (c : Dev nD) : after hostOps0_15 (stC m c) (Proc.devRef .tc main_v83) = boxOf m c := by
  rw [r_v83, show stC m c (Proc.devRef .tc main_v82) = broadcastInDim S4x1000x1 ![0, 1] bcast_S4x1000_S4x1000x1_0_1 (topI (scoreOf m c)) from
    (r_v82 _).trans (by rw [stA_v81])]
  rw [show stC m c (Proc.devRef .tc main_v71) = stA (launchContents m c) (Proc.devRef .tc main_v71) from
    after_of_writes_sub hostOps0_14 _ hostOps0_14_writes (by decide +kernel), stA_v71]

theorem stD_v84 (c : Dev nD) : after hostOps0_16 (after hostOps0_15 (stC m c)) (Proc.devRef .tc main_v84) = classOf m c := by
  rw [r_v84]
  rw [show after hostOps0_15 (stC m c) (Proc.devRef .tc main_v77) = stA (launchContents m c) (Proc.devRef .tc main_v77) from
    (after_of_writes_sub hostOps0_15 _ hostOps0_15_writes (by decide +kernel)).trans
      (after_of_writes_sub hostOps0_14 _ hostOps0_14_writes (by decide +kernel)), stA_v77]
  rw [show after hostOps0_15 (stC m c) (Proc.devRef .tc main_indices) = stC m c (Proc.devRef .tc main_indices) from
    after_of_writes_sub hostOps0_15 _ hostOps0_15_writes (by decide +kernel), show stC m c (Proc.devRef .tc main_indices) = topI (scoreOf m c) from
    (r_indices _).trans (by rw [stA_v81])]

theorem stE_v83 (c : Dev nD) : after hostOps0_16 (after hostOps0_15 (stC m c)) (Proc.devRef .tc main_v83) = boxOf m c :=
  (after_of_writes_sub hostOps0_16 _ hostOps0_16_writes (by decide +kernel)).trans (stD_v83 m c)

theorem entry_v83 (c : Dev nD) : entry m c (Proc.devRef .tc main_v83) = boxOf m c := by
  rw [entry_eq]
  exact (after_of_writes_sub hostOps0_17 _ hostOps0_17_writes (by decide +kernel)).trans (stE_v83 m c)
theorem entry_v84 (c : Dev nD) : entry m c (Proc.devRef .tc main_v84) = classOf m c := by
  rw [entry_eq]
  exact (after_of_writes_sub hostOps0_17 _ hostOps0_17_writes (by decide +kernel)).trans (stD_v84 m c)
theorem entry_values (c : Dev nD) : entry m c (Proc.devRef .tc main_values) = topV (scoreOf m c) := by
  rw [entry_eq]
  refine (after_of_writes_sub hostOps0_17 _ hostOps0_17_writes (by decide +kernel)).trans
    ((after_of_writes_sub hostOps0_16 _ hostOps0_16_writes (by decide +kernel)).trans
      ((after_of_writes_sub hostOps0_15 _ hostOps0_15_writes (by decide +kernel)).trans ((r_values _).trans ?_)))
  rw [stA_v81]
theorem entry_iou (c : Dev nD) : entry m c (Proc.devRef .tc main_v158_1) = iouR (shiftR (boxOf m c) (classOf m c)) := by
  rw [entry_eq]
  refine (r_iou _).trans ?_
  rw [stE_v83, stD_v84]

/-- The flags after the last trip. -/
theorem keep_end (c : Dev nD) : atK m 1000 c (Proc.devRef .tc main_v158_4) = keepR (iouR (shiftR (boxOf m c) (classOf m c))) 1000 := by
  have h0 : entry m c (Proc.devRef .tc main_v158_0) = iotaInDim S1000 32 0 := by rw [entry_eq]; exact r_idx0 _
  have h2 : entry m c (Proc.devRef .tc main_v158_2) = iotaInDim S1000 32 0 := by rw [entry_eq]; exact r_idx2 _
  have h4 : entry m c (Proc.devRef .tc main_v158_4) = fun _ => 1#1 := by
    rw [entry_eq]
    exact (r_keep _).trans (by funext y; idx_vars y; pointwise)
  refine (atK_keep m c h0 h2 h4 1000 le_rfl).trans ?_
  rw [entry_iou]

/-- The condition leaves the selection's buffers and the flags as they were. -/
theorem cond_keep_of (V : Valuation τ sig (Elt F)) {r : Ref sig .tc} (h : r ∉ condOps_W) :
    after condOps V (Proc.devRef .tc r) = V (Proc.devRef .tc r) := after_of_writes_sub condOps V condOps_writes h

/-- The reference's result. -/
theorem final_v163 (c : Dev nD) : finalContents condOps preI bodyI postI 1000 m c (Proc.devRef .tc main_v163)
    = joinR (boxOf m c) (mulf (topV (scoreOf m c)) (uitofp .f32 (keepR (iouR (shiftR (boxOf m c) (classOf m c))) 1000))) (classOf m c) := by
  have e : finalContents condOps preI bodyI postI 1000 m c (Proc.devRef .tc main_v163)
      = after hostOps0_18 (after condOps (atK m 1000 c)) (Proc.devRef .tc main_v163) := rfl
  rw [e, r_v163, cond_keep_of _ (by decide +kernel), cond_keep_of _ (by decide +kernel), cond_keep_of _ (by decide +kernel),
    cond_keep_of _ (by decide +kernel), keep_end, atK_sel m c (by decide), atK_sel m c (by decide), atK_sel m c (by decide),
    entry_v83, entry_v84, entry_values]

end

end Cert.ReferenceIdeal.Run
-- ==== Proof.Val.Final.lean ====
module

public import proofs.«01_k».proof.Proof.Val.Keep
public import proofs.«01_k».proof.Proof.Val.Pick
public import proofs.«01_k».proof.Proof.Val.Arrays1
public import proofs.«01_k».proof.Proof.Val.Arrays
public import proofs.«01_k».proof.Proof.RI.Final

/-! The kernel's result is the reference's. -/

@[expose] public section

set_option maxRecDepth 16384

noncomputable section

namespace Cert.Val

open Idealize.ShloMosaic Idealize.ShloMosaic.TcCoe Idealize.ShloMosaic.Tactic
open Idealize.ShloMosaic.StableHlo (finalContents launchContents)
open Cert.KernelIdeal Cert.KernelIdeal.Gen Cert.KernelIdeal.Run

/-- A coordinate clipped between zero and the image's side is a real number. -/
theorem clip_real (x : EReal) : ∃ r : ℝ, min ((1024 : ℝ) : EReal) (max 0 x) = (r : EReal) := by
  induction x with
  | bot => exact ⟨0, by rw [max_eq_left bot_le]; exact min_eq_right (by exact_mod_cast (by norm_num : (0 : ℝ) ≤ 1024))⟩
  | top => exact ⟨1024, by rw [max_eq_right le_top]; exact min_eq_left le_top⟩
  | coe x =>
    refine ⟨min 1024 (max 0 x), ?_⟩
    rw [show (0 : EReal) = ((0 : ℝ) : EReal) from rfl, coe_max', coe_min']

/-- Every coordinate of every decoded box is a real number. -/
theorem boxesR_real (r d : FVec Ideal ReferenceIdeal.S4x5000x4 .f32) (y : ReferenceIdeal.S4x5000x4.Idx) :
    ∃ v : ℝ, ReferenceIdeal.Run.boxesR r d y = (v : EReal) := by
  idx_vars y
  unfold ReferenceIdeal.Run.boxesR
  fin_cases y2
  all_goals
    pointwise
    rw [num_1024]
    exact clip_real _

/-- So is every coordinate of every selected box. -/
theorem boxesOf_real (b : FVec Ideal S4x5000x4 .f32) (hb : ∀ y, ∃ v : ℝ, b y = (v : EReal)) (i : IVec S4x1000 32) (hi : Below 400000 i)
    (y : S4x1000x4.Idx) : ∃ v : ℝ, boxesOf b i y = (v : EReal) := by
  rw [boxes_eq b i hi]
  have hr : Below 400000 (broadcastInDim ReferenceIdeal.S4x1000x1 ![0, 1] ReferenceIdeal.Gen.bcast_S4x1000_S4x1000x1_0_1 i) := fun y => hi _
  idx_vars y
  obtain ⟨k, hk, ek⟩ := hi (ix2 y0 y1)
  rw [takeR _ _ hr y0 y1 y2 ⟨k, hk⟩ (by pointwise; exact ek)]
  unfold ReferenceIdeal.Run.repR
  pointwise
  exact hb _

/-- Class numbers are real numbers. -/
theorem clsOf_real (i : IVec S4x1000 32) (y : S4x1000.Idx) : ∃ v : ℝ, clsOf (F := Ideal) i y = (v : EReal) := ⟨_, rfl⟩

/-- A flag read as a number. -/
theorem flag_unsigned (X : BitVec 1) : (FloatOps.uitofp .f32 X : Ideal .f32) = one_of X := by
  unfold one_of
  change (((X.toNat : ℝ) : EReal)) = _
  rcases (show X = 0#1 ∨ X = 1#1 by revert X; decide) with rfl | rfl <;> simp

/-- The suppression call multiplies the scores by the reference's flags. -/
theorem nms_eq (B : FVec Ideal ReferenceIdeal.S4x1000x4 .f32) (L s : FVec Ideal ReferenceIdeal.S4x1000 .f32)
    (hB : ∀ y, ∃ r : ℝ, B y = (r : EReal)) (hL : ∀ y, ∃ r : ℝ, L y = (r : EReal)) :
    nmsOut (ReferenceIdeal.Run.sel0 B) (ReferenceIdeal.Run.sel1 B) (ReferenceIdeal.Run.sel2 B) (ReferenceIdeal.Run.sel3 B) L
      (transpose S1000x4x4 [1, 0, 2] B trans_ref) s
    = mulf s (uitofp .f32 (ReferenceIdeal.Run.keepR (ReferenceIdeal.Run.iouR (ReferenceIdeal.Run.shiftR B L)) 1000)) := by
  funext y
  change S4x1000.Idx at y
  idx_vars y
  unfold nmsOut
  have hk := keep_eq (ReferenceIdeal.Run.iouR (ReferenceIdeal.Run.shiftR B L)) _ (cell B L hB hL) 1000 le_rfl y0 y1
  rw [trips2]
  pointwise [k1_pay5]
  rw [hk, ← flag_unsigned]

variable (m : (ℓ : Loc nD τ sig) → Buf (Elt Ideal) ℓ) (ρ : Dev nD → PrngReg)

/-- The selected positions, boxes and classes, of the kernel's arguments. -/
abbrev posK (c : Dev nD) : IVec S4x1000 32 :=
  topI (ReferenceIdeal.Run.scoR (F := Ideal) (ReferenceIdeal.Run.clsArg (m ((c : Thread nD τ).loc main_arg1))))
abbrev boxK (c : Dev nD) : FVec Ideal S4x1000x4 .f32 := boxesOf (ReferenceIdeal.Run.boxesR (F := Ideal)
  (m ((c : Thread nD τ).loc main_arg0)) (ReferenceIdeal.Run.regArg (m ((c : Thread nD τ).loc main_arg2)))) (posK m c)
abbrev clsK (c : Dev nD) : FVec Ideal S4x1000 .f32 := clsOf (F := Ideal) (posK m c)
abbrev valK (c : Dev nD) : FVec Ideal S4x1000 .f32 :=
  topV (ReferenceIdeal.Run.scoR (F := Ideal) (ReferenceIdeal.Run.clsArg (m ((c : Thread nD τ).loc main_arg1))))

theorem W3_v15 (c : Dev nD) : W3 m ρ c (Proc.devRef .tc main_call0_v15) = ReferenceIdeal.Run.sel0 (F := Ideal) (boxK m c) :=
  (h1_v15 (W2 m ρ c)).trans (congrArg (ReferenceIdeal.Run.sel0 (F := Ideal)) (W3_v8 m ρ c))
theorem W3_v17 (c : Dev nD) : W3 m ρ c (Proc.devRef .tc main_call0_v17) = ReferenceIdeal.Run.sel1 (F := Ideal) (boxK m c) :=
  (h1_v17 (W2 m ρ c)).trans (congrArg (ReferenceIdeal.Run.sel1 (F := Ideal)) (W3_v8 m ρ c))
theorem W3_v19 (c : Dev nD) : W3 m ρ c (Proc.devRef .tc main_call0_v19) = ReferenceIdeal.Run.sel2 (F := Ideal) (boxK m c) :=
  (h1_v19 (W2 m ρ c)).trans (congrArg (ReferenceIdeal.Run.sel2 (F := Ideal)) (W3_v8 m ρ c))
theorem W3_v21 (c : Dev nD) : W3 m ρ c (Proc.devRef .tc main_call0_v21) = ReferenceIdeal.Run.sel3 (F := Ideal) (boxK m c) :=
  (h1_v21 (W2 m ρ c)).trans (congrArg (ReferenceIdeal.Run.sel3 (F := Ideal)) (W3_v8 m ρ c))
theorem W3_v13 (c : Dev nD) : W3 m ρ c (Proc.devRef .tc main_call0_v13)
    = transpose S1000x4x4 [1, 0, 2] (boxK m c) transposes_S4x1000x4_S1000x4x4_1_0_2 :=
  (h1_v13 (W2 m ρ c)).trans (congrArg (fun x => transpose S1000x4x4 [1, 0, 2] x transposes_S4x1000x4_S1000x4x4_1_0_2) (W3_v8 m ρ c))

/-- The kept scores. -/
theorem W4_v22 (c : Dev nD) : W4 m ρ c (Proc.devRef .tc main_call0_v22) = mulf (F := Ideal) (valK m c)
    (uitofp .f32 (ReferenceIdeal.Run.keepR (ReferenceIdeal.Run.iouR (ReferenceIdeal.Run.shiftR (boxK m c) (clsK m c))) 1000)) := by
  refine (W4_arr m ρ c 7).trans ((arr_nms (V3 m ρ) c).trans ?_)
  show nmsOut (W3 m ρ c (Proc.devRef .tc main_call0_v15)) (W3 m ρ c (Proc.devRef .tc main_call0_v17)) (W3 m ρ c (Proc.devRef .tc main_call0_v19))
    (W3 m ρ c (Proc.devRef .tc main_call0_v21)) (W3 m ρ c (Proc.devRef .tc main_call0_v12)) (W3 m ρ c (Proc.devRef .tc main_call0_v13))
    (W3 m ρ c (Proc.devRef .tc main_call0_values)) = _
  rw [W3_v15, W3_v17, W3_v19, W3_v21, W3_v13, W3_v12, W3_values]
  exact nms_eq (boxK m c) (clsK m c) (valK m c) (boxesOf_real _ (boxesR_real _ _) _ (topI_below _)) (clsOf_real _)

/-- The kernel's result. -/
theorem W5_v0 (c : Dev nD) : W5 m ρ c (Proc.devRef .tc main_v0) = ReferenceIdeal.Run.joinR (F := Ideal) (boxK m c) (mulf (F := Ideal) (valK m c)
    (uitofp .f32 (ReferenceIdeal.Run.keepR (ReferenceIdeal.Run.iouR (ReferenceIdeal.Run.shiftR (boxK m c) (clsK m c))) 1000))) (clsK m c) := by
  refine (h2_v0 (W4 m ρ c)).trans ?_
  rw [W4_v22, W4_of m ρ c main_call0_v8 (by decide +kernel), W4_of m ρ c main_call0_v12 (by decide +kernel), W3_v8, W3_v12]
  rfl

/-- From the same arguments the reference's result is the kernel's. -/
theorem result_eq (m' : (ℓ : Loc ReferenceIdeal.nD ReferenceIdeal.τ ReferenceIdeal.sig) → Buf (Elt Ideal) ℓ) (c : Dev nD)
    (e0 : m' ((c.tc : Thread ReferenceIdeal.nD ReferenceIdeal.τ).loc ReferenceIdeal.main_arg0) = m ((c.tc : Thread nD τ).loc main_arg0))
    (e1 : m' ((c.tc : Thread ReferenceIdeal.nD ReferenceIdeal.τ).loc ReferenceIdeal.main_arg1) = m ((c.tc : Thread nD τ).loc main_arg1))
    (e2 : m' ((c.tc : Thread ReferenceIdeal.nD ReferenceIdeal.τ).loc ReferenceIdeal.main_arg2) = m ((c.tc : Thread nD τ).loc main_arg2)) :
    finalContents ReferenceIdeal.Value.condOps ReferenceIdeal.Value.preI ReferenceIdeal.Value.bodyI ReferenceIdeal.Value.postI 1000 m' c
      (Proc.devRef .tc ReferenceIdeal.main_v163) = W5 m ρ c (Proc.devRef .tc main_v0) := by
  refine (ReferenceIdeal.Run.final_v163 m' c).trans ?_
  rw [W5_v0]
  have l0 : launchContents m' c (Proc.devRef .tc ReferenceIdeal.main_arg0) = m ((c.tc : Thread nD τ).loc main_arg0) := e0
  have l1 : launchContents m' c (Proc.devRef .tc ReferenceIdeal.main_arg1) = m ((c.tc : Thread nD τ).loc main_arg1) := e1
  have l2 : launchContents m' c (Proc.devRef .tc ReferenceIdeal.main_arg2) = m ((c.tc : Thread nD τ).loc main_arg2) := e2
  have hs : ReferenceIdeal.Run.scoreOf m' c = ReferenceIdeal.Run.scoR (F := Ideal) (ReferenceIdeal.Run.clsArg (m ((c : Thread nD τ).loc main_arg1))) :=
    congrArg (fun x => ReferenceIdeal.Run.scoR (F := Ideal) (ReferenceIdeal.Run.clsArg x)) l1
  have hp : ReferenceIdeal.Run.topI (ReferenceIdeal.Run.scoreOf m' c) = posK m c := congrArg (ReferenceIdeal.Run.topI (F := Ideal)) hs
  have hv : ReferenceIdeal.Run.topV (ReferenceIdeal.Run.scoreOf m' c) = valK m c := congrArg (ReferenceIdeal.Run.topV (F := Ideal)) hs
  have hc : ReferenceIdeal.Run.classOf m' c = clsK m c :=
    (congrArg (ReferenceIdeal.Run.takeCls (F := Ideal) ReferenceIdeal.Run.clsR) hp).trans (cls_eq (posK m c) (topI_below _)).symm
  have hb : ReferenceIdeal.Run.boxOf m' c = boxK m c := by
    refine Eq.trans ?_ (boxes_eq _ (posK m c) (topI_below _)).symm
    show ReferenceIdeal.Run.takeRows _ _ = _
    rw [hp, l0, l2]
  rw [hb, hc, hv]

end Cert.Val
-- ==== Proof.Val.Algebraic.lean ====
module

public import proofs.«01_k».proof.Proof.Val.Final
public import proofs.«01_k».proof.Proof.KI.Run

/-! Both programs end with the same result and with their arguments unchanged. -/

@[expose] public section

set_option maxRecDepth 16384

noncomputable section

namespace Cert.Val

open Idealize.ShloMosaic Idealize.ShloMosaic.TcCoe Idealize.SL.Sem
open Idealize.ShloMosaic.StableHlo (finalContents)
open Cert.KernelIdeal Cert.KernelIdeal.Gen Cert.KernelIdeal.Run

variable (m : (ℓ : Loc nD τ sig) → Buf (Elt Ideal) ℓ) (ρ : Dev nD → PrngReg)

/-- The kernel ends with the value `W5` of its result buffer, and its arguments as launched. -/
theorem kernel_result : θ_run (defs (F := Ideal)) (onTc (τ := τ) (main (F := Ideal))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h.1 c _ (mem_uc main_v0 (by decide)),
    (h.1 c _ (mem_uc main_arg0 (by decide))).trans (W5_args m ρ c main_arg0 (by decide)),
    (h.1 c _ (mem_uc main_arg1 (by decide))).trans (W5_args m ρ c main_arg1 (by decide)),
    (h.1 c _ (mem_uc main_arg2 (by decide))).trans (W5_args m ρ c main_arg2 (by decide))⟩) (run m ρ)

/-- From the same arguments the reference ends with the kernel's result, and its arguments as launched. -/
theorem reference_result (m' : (ℓ : Loc ReferenceIdeal.nD ReferenceIdeal.τ ReferenceIdeal.sig) → Buf (Elt Ideal) ℓ)
    (ρ' : Dev ReferenceIdeal.nD → PrngReg) (hag : ∀ c : Dev nD,
      m' ((c.tc : Thread ReferenceIdeal.nD ReferenceIdeal.τ).loc ReferenceIdeal.main_arg0) = m ((c.tc : Thread nD τ).loc main_arg0)
      ∧ m' ((c.tc : Thread ReferenceIdeal.nD ReferenceIdeal.τ).loc ReferenceIdeal.main_arg1) = m ((c.tc : Thread nD τ).loc main_arg1)
      ∧ m' ((c.tc : Thread ReferenceIdeal.nD ReferenceIdeal.τ).loc ReferenceIdeal.main_arg2) = m ((c.tc : Thread nD τ).loc main_arg2)) :
    θ_run (ReferenceIdeal.defs (F := Ideal)) (onTc (τ := ReferenceIdeal.τ) (ReferenceIdeal.main (F := Ideal))) ⟨m', fun _ => 0, ρ'⟩
      (fun r => ∀ c : Dev ReferenceIdeal.nD,
      r.2.mem ((c.tc : Thread ReferenceIdeal.nD ReferenceIdeal.τ).loc ReferenceIdeal.main_v163) = W5 m ρ c (Proc.devRef .tc main_v0)
      ∧ r.2.mem ((c.tc : Thread ReferenceIdeal.nD ReferenceIdeal.τ).loc ReferenceIdeal.main_arg0)
        = m' ((c.tc : Thread ReferenceIdeal.nD ReferenceIdeal.τ).loc ReferenceIdeal.main_arg0)
      ∧ r.2.mem ((c.tc : Thread ReferenceIdeal.nD ReferenceIdeal.τ).loc ReferenceIdeal.main_arg1)
        = m' ((c.tc : Thread ReferenceIdeal.nD ReferenceIdeal.τ).loc ReferenceIdeal.main_arg1)
      ∧ r.2.mem ((c.tc : Thread ReferenceIdeal.nD ReferenceIdeal.τ).loc ReferenceIdeal.main_arg2)
        = m' ((c.tc : Thread ReferenceIdeal.nD ReferenceIdeal.τ).loc ReferenceIdeal.main_arg2)) :=
  (θ_run ReferenceIdeal.defs _ _).mono (fun _ h c =>
    ⟨(h c ReferenceIdeal.main_v163 rfl).trans (result_eq m ρ m' c (hag c).1 (hag c).2.1 (hag c).2.2),
     (h c ReferenceIdeal.main_arg0 rfl).trans (ReferenceIdeal.Run.final_args m' c (by decide)),
     (h c ReferenceIdeal.main_arg1 rfl).trans (ReferenceIdeal.Run.final_args m' c (by decide)),
     (h c ReferenceIdeal.main_arg2 rfl).trans (ReferenceIdeal.Run.final_args m' c (by decide))⟩) (ReferenceIdeal.Value.run_fold m' ρ')

end Cert.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.RI.Frame
public import proofs.«01_k».proof.Proof.Val.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ, fun m ρ _ => Cert.ReferenceIdeal.Run.frame m ρ, trivial,
  fun m ρ m' ρ' _ hag => ⟨fun c => Cert.KernelIdeal.Run.W5 m ρ c (Proc.devRef .tc Cert.KernelIdeal.main_v0),
    Cert.Val.kernel_result m ρ, Cert.Val.reference_result m ρ m' ρ' hag⟩⟩

end Cert.Proof

end
